-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "theta_exponent" .f32 0xBF549A78#32 ((-((Real.log 10000) * (16 * (Real.log 2))⁻¹) : ℝ) : EReal)
  ∧ IdealRules.named_const.Statement Cert.KernelIdeal.κ "score_exponent" .f32 0x3E16C740#32 (((Real.sqrt 96)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)) (v7 : (c : Dev Cert.KernelIdeal.nD) → Buf (Elt Ideal) ((c.tc : Thread Cert.KernelIdeal.nD Cert.KernelIdeal.τ).loc Cert.KernelIdeal.main_v14_7)) (v8 : (c : Dev Cert.KernelIdeal.nD) → Buf (Elt Ideal) ((c.tc : Thread Cert.KernelIdeal.nD Cert.KernelIdeal.τ).loc Cert.KernelIdeal.main_v14_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_v14_7) = v7 c
          ∧ r.2.mem ((c.tc : Thread Cert.KernelIdeal.nD Cert.KernelIdeal.τ).loc Cert.KernelIdeal.main_v14_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_v13_3) = v3 c
          ∧ r.2.mem ((c.tc : Thread Cert.ReferenceIdeal.nD Cert.ReferenceIdeal.τ).loc Cert.ReferenceIdeal.main_v13_4) = v4 c
          ∧ r.2.mem ((c.tc : Thread Cert.ReferenceIdeal.nD Cert.ReferenceIdeal.τ).loc Cert.ReferenceIdeal.main_v13_5) = v5 c
          ∧ r.2.mem ((c.tc : Thread Cert.ReferenceIdeal.nD Cert.ReferenceIdeal.τ).loc Cert.ReferenceIdeal.main_v13_6) = v6 c
          ∧ r.2.mem ((c.tc : Thread Cert.ReferenceIdeal.nD Cert.ReferenceIdeal.τ).loc Cert.ReferenceIdeal.main_v13_7) = v7 c
          ∧ r.2.mem ((c.tc : Thread Cert.ReferenceIdeal.nD Cert.ReferenceIdeal.τ).loc Cert.ReferenceIdeal.main_v13_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S3584 : Shape := ⟨1, ![3584]⟩
abbrev S1024 : Shape := ⟨1, ![1024]⟩
abbrev S384 : Shape := ⟨1, ![384]⟩
abbrev S3584x1024 : Shape := ⟨2, ![3584, 1024]⟩
abbrev S1024x3840 : Shape := ⟨2, ![1024, 3840]⟩
abbrev S3840 : Shape := ⟨1, ![3840]⟩
abbrev S3584x416 : Shape := ⟨2, ![3584, 416]⟩
abbrev S416 : Shape := ⟨1, ![416]⟩
abbrev S384x6400 : Shape := ⟨2, ![384, 6400]⟩
abbrev S6400 : Shape := ⟨1, ![6400]⟩
abbrev S3840x3584 : Shape := ⟨2, ![3840, 3584]⟩
abbrev S_ : Shape := ⟨0, ![]⟩
abbrev S1x1 : Shape := ⟨2, ![1, 1]⟩
abbrev S256x3584 : Shape := ⟨2, ![256, 3584]⟩
abbrev S1x3584 : Shape := ⟨2, ![1, 3584]⟩
abbrev S1x1024 : Shape := ⟨2, ![1, 1024]⟩
abbrev S1x384 : Shape := ⟨2, ![1, 384]⟩
abbrev S1x3840 : Shape := ⟨2, ![1, 3840]⟩
abbrev S416x3584 : Shape := ⟨2, ![416, 3584]⟩
abbrev S1x416 : Shape := ⟨2, ![1, 416]⟩
abbrev S1x6400 : Shape := ⟨2, ![1, 6400]⟩
abbrev S256x1024 : Shape := ⟨2, ![256, 1024]⟩
abbrev S256x384 : Shape := ⟨2, ![256, 384]⟩
abbrev S256x3840 : Shape := ⟨2, ![256, 3840]⟩
abbrev S40x256x256 : Shape := ⟨3, ![40, 256, 256]⟩
abbrev S256x5120 : Shape := ⟨2, ![256, 5120]⟩
abbrev S256 : Shape := ⟨1, ![256]⟩
abbrev S256x1 : Shape := ⟨2, ![256, 1]⟩
abbrev S1x256x3584 : Shape := ⟨3, ![1, 256, 3584]⟩
abbrev S1 : Shape := ⟨1, ![1]⟩
abbrev S1x1x1 : Shape := ⟨3, ![1, 1, 1]⟩
abbrev S1x256x1024 : Shape := ⟨3, ![1, 256, 1024]⟩
abbrev S416x256 : Shape := ⟨2, ![416, 256]⟩
abbrev S384x256 : Shape := ⟨2, ![384, 256]⟩
abbrev S1x256x384 : Shape := ⟨3, ![1, 256, 384]⟩
abbrev S32x128 : Shape := ⟨2, ![32, 128]⟩
abbrev S1x32 : Shape := ⟨2, ![1, 32]⟩
abbrev S1x128 : Shape := ⟨2, ![1, 128]⟩
abbrev S128x128 : Shape := ⟨2, ![128, 128]⟩
abbrev S256x128 : Shape := ⟨2, ![256, 128]⟩
abbrev S1024x768 : Shape := ⟨2, ![1024, 768]⟩
abbrev S256x768 : Shape := ⟨2, ![256, 768]⟩
abbrev S1x768 : Shape := ⟨2, ![1, 768]⟩
abbrev S768x256 : Shape := ⟨2, ![768, 256]⟩
abbrev S96x128 : Shape := ⟨2, ![96, 128]⟩
abbrev S64x128 : Shape := ⟨2, ![64, 128]⟩
abbrev S1x256x256 : Shape := ⟨3, ![1, 256, 256]⟩
abbrev S256x256 : Shape := ⟨2, ![256, 256]⟩
abbrev S1x64x128 : Shape := ⟨3, ![1, 64, 128]⟩
abbrev S1x32x128 : Shape := ⟨3, ![1, 32, 128]⟩
abbrev S384x1280 : Shape := ⟨2, ![384, 1280]⟩
abbrev S256x1280 : Shape := ⟨2, ![256, 1280]⟩
abbrev S1x1280 : Shape := ⟨2, ![1, 1280]⟩
abbrev S1x128x128 : Shape := ⟨3, ![1, 128, 128]⟩
abbrev S128x256 : Shape := ⟨2, ![128, 256]⟩
abbrev S1x256 : Shape := ⟨2, ![1, 256]⟩
abbrev S3840x512 : Shape := ⟨2, ![3840, 512]⟩
abbrev S256x512 : Shape := ⟨2, ![256, 512]⟩
abbrev S1x512 : Shape := ⟨2, ![1, 512]⟩

abbrev nBuf : Space → Nat
  | .hbm => 41
  | .vmem => 26
  | .smem => 4
  | _ => 0

abbrev bufTy : (tb : Table) → Fin (tcTables nBuf tb) → BufTy
  | .hbm, ⟨0, _⟩ => ⟨S2x128x3584, .bf16⟩
  | .hbm, ⟨1, _⟩ => ⟨S3584, .f32⟩
  | .hbm, ⟨2, _⟩ => ⟨S1024, .f32⟩
  | .hbm, ⟨3, _⟩ => ⟨S384, .f32⟩
  | .hbm, ⟨4, _⟩ => ⟨S3584x1024, .fp8e4m3⟩
  | .hbm, ⟨5, _⟩ => ⟨S1024, .f32⟩
  | .hbm, ⟨6, _⟩ => ⟨S1024x3840, .fp8e4m3⟩
  | .hbm, ⟨7, _⟩ => ⟨S3840, .f32⟩
  | .hbm, ⟨8, _⟩ => ⟨S3584x416, .fp8e4m3⟩
  | .hbm, ⟨9, _⟩ => ⟨S416, .f32⟩
  | .hbm, ⟨10, _⟩ => ⟨S384x6400, .fp8e4m3⟩
  | .hbm, ⟨11, _⟩ => ⟨S6400, .f32⟩
  | .hbm, ⟨12, _⟩ => ⟨S3840x3584, .fp8e4m3⟩
  | .hbm, ⟨13, _⟩ => ⟨S3584, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S256x3584, .bf16⟩
  | .hbm, ⟨23, _⟩ => ⟨S1x3584, .f32⟩
  | .hbm, ⟨24, _⟩ => ⟨S1x1024, .f32⟩
  | .hbm, ⟨25, _⟩ => ⟨S1x384, .f32⟩
  | .hbm, ⟨26, _⟩ => ⟨S1x1024, .f32⟩
  | .hbm, ⟨27, _⟩ => ⟨S1x3840, .f32⟩
  | .hbm, ⟨28, _⟩ => ⟨S416x3584, .fp8e4m3⟩
  | .hbm, ⟨29, _⟩ => ⟨S1x416, .f32⟩
  | .hbm, ⟨30, _⟩ => ⟨S1x6400, .f32⟩
  | .hbm, ⟨31, _⟩ => ⟨S1x3584, .f32⟩
  | .hbm, ⟨32, _⟩ => ⟨S256x3584, .bf16⟩
  | .hbm, ⟨33, _⟩ => ⟨S256x3584, .fp8e4m3⟩
  | .hbm, ⟨34, _⟩ => ⟨S1x1, .f32⟩
  | .hbm, ⟨35, _⟩ => ⟨S256x1024, .fp8e4m3⟩
  | .hbm, ⟨36, _⟩ => ⟨S1x1, .f32⟩
  | .hbm, ⟨37, _⟩ => ⟨S256x384, .fp8e4m3⟩
  | .hbm, ⟨38, _⟩ => ⟨S1x1, .f32⟩
  | .hbm, ⟨39, _⟩ => ⟨S256x3840, .fp8e4m3⟩
  | .hbm, ⟨40, _⟩ => ⟨S1x1, .f32⟩
  | .local _ .vmem, ⟨0, _⟩ => ⟨S256x3584, .bf16⟩
  | .local _ .vmem, ⟨1, _⟩ => ⟨S1x3584, .f32⟩
  | .local _ .vmem, ⟨2, _⟩ => ⟨S1x1024, .f32⟩
  | .local _ .vmem, ⟨3, _⟩ => ⟨S1x384, .f32⟩
  | .local _ .vmem, ⟨4, _⟩ => ⟨S3584x1024, .fp8e4m3⟩
  | .local _ .vmem, ⟨5, _⟩ => ⟨S1x1024, .f32⟩
  | .local _ .vmem, ⟨6, _⟩ => ⟨S1024x3840, .fp8e4m3⟩
  | .local _ .vmem, ⟨7, _⟩ => ⟨S1x3840, .f32⟩
  | .local _ .vmem, ⟨8, _⟩ => ⟨S416x3584, .fp8e4m3⟩
  | .local _ .vmem, ⟨9, _⟩ => ⟨S1x416, .f32⟩
  | .local _ .vmem, ⟨10, _⟩ => ⟨S384x6400, .fp8e4m3⟩
  | .local _ .vmem, ⟨11, _⟩ => ⟨S1x6400, .f32⟩
  | .local _ .vmem, ⟨12, _⟩ => ⟨S3840x3584, .fp8e4m3⟩
  | .local _ .vmem, ⟨13, _⟩ => ⟨S1x3584, .f32⟩
  | .local _ .vmem, ⟨14, _⟩ => ⟨S256x3584, .bf16⟩
  | .local _ .vmem, ⟨15, _⟩ => ⟨S256x3584, .fp8e4m3⟩
  | .local _ .vmem, ⟨16, _⟩ => ⟨S1x1, .f32⟩
  | .local _ .vmem, ⟨17, _⟩ => ⟨S256x1024, .fp8e4m3⟩
  | .local _ .vmem, ⟨18, _⟩ => ⟨S1x1, .f32⟩
  | .local _ .vmem, ⟨19, _⟩ => ⟨S256x384, .fp8e4m3⟩
  | .local _ .vmem, ⟨20, _⟩ => ⟨S1x1, .f32⟩
  | .local _ .vmem, ⟨21, _⟩ => ⟨S256x3840, .fp8e4m3⟩
  | .local _ .vmem, ⟨22, _⟩ => ⟨S1x1, .f32⟩
  | .local _ .vmem, ⟨23, _⟩ => ⟨S40x256x256, .bf16⟩
  | .local _ .vmem, ⟨24, _⟩ => ⟨S256x5120, .bf16⟩
  | .local _ .vmem, ⟨25, _⟩ => ⟨S40x256x256, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev main_v14_5 : Ref sig .tc := ⟨.hbm, 37, rfl⟩
abbrev main_v14_6 : Ref sig .tc := ⟨.hbm, 38, rfl⟩
abbrev main_v14_7 : Ref sig .tc := ⟨.hbm, 39, rfl⟩
abbrev main_v14_8 : Ref sig .tc := ⟨.hbm, 40, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg14_0 : Ref sig .tc := ⟨.vmem, 10, rfl⟩
abbrev cc0_stg15_0 : Ref sig .tc := ⟨.vmem, 11, rfl⟩
abbrev cc0_stg16_0 : Ref sig .tc := ⟨.vmem, 12, rfl⟩
abbrev cc0_stg17_0 : Ref sig .tc := ⟨.vmem, 13, rfl⟩
abbrev cc0_stg18_0 : Ref sig .tc := ⟨.vmem, 14, rfl⟩
abbrev cc0_stg19_0 : Ref sig .tc := ⟨.vmem, 15, rfl⟩
abbrev cc0_stg20_0 : Ref sig .tc := ⟨.vmem, 16, rfl⟩
abbrev cc0_stg21_0 : Ref sig .tc := ⟨.vmem, 17, rfl⟩
abbrev cc0_stg22_0 : Ref sig .tc := ⟨.vmem, 18, rfl⟩
abbrev cc0_stg23_0 : Ref sig .tc := ⟨.vmem, 19, rfl⟩
abbrev cc0_stg24_0 : Ref sig .tc := ⟨.vmem, 20, rfl⟩
abbrev cc0_stg25_0 : Ref sig .tc := ⟨.vmem, 21, rfl⟩
abbrev cc0_stg26_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x3840 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3840 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S416x3584 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x416 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S384x6400 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6400 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3840x3584 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x3584 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x3584 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x3584 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x1024 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x384 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x3840 .fp8e4m3 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== KernelIdeal.lean ====
variable {F : FTy → Type} [FloatOps F] [Named F]
def κ : String → Option EReal := fun
  | "score_exponent" => some (((Real.sqrt 96)⁻¹ * (Real.log 2)⁻¹ : ℝ) : EReal)
  | "theta_exponent" => some ((-((Real.log 10000) * (16 * (Real.log 2))⁻¹) : ℝ) : EReal)
  | _ => none
-- ==== ReferenceIdeal.lean ====
abbrev S2x128x3584 : Shape := ⟨3, ![2, 128, 3584]⟩
abbrev S3584 : Shape := ⟨1, ![3584]⟩
abbrev S1024 : Shape := ⟨1, ![1024]⟩
abbrev S384 : Shape := ⟨1, ![384]⟩
abbrev S3584x1024 : Shape := ⟨2, ![3584, 1024]⟩
abbrev S1024x3840 : Shape := ⟨2, ![1024, 3840]⟩
abbrev S3840 : Shape := ⟨1, ![3840]⟩
abbrev S3584x416 : Shape := ⟨2, ![3584, 416]⟩
abbrev S416 : Shape := ⟨1, ![416]⟩
abbrev S384x6400 : Shape := ⟨2, ![384, 6400]⟩
abbrev S6400 : Shape := ⟨1, ![6400]⟩
abbrev S3840x3584 : Shape := ⟨2, ![3840, 3584]⟩
abbrev S_ : Shape := ⟨0, ![]⟩
abbrev S256x3584 : Shape := ⟨2, ![256, 3584]⟩
abbrev S1x3584 : Shape := ⟨2, ![1, 3584]⟩
abbrev S1x1024 : Shape := ⟨2, ![1, 1024]⟩
abbrev S1x384 : Shape := ⟨2, ![1, 384]⟩
abbrev S1x3840 : Shape := ⟨2, ![1, 3840]⟩
abbrev S1x416 : Shape := ⟨2, ![1, 416]⟩
abbrev S1x6400 : Shape := ⟨2, ![1, 6400]⟩
abbrev S1x1 : Shape := ⟨2, ![1, 1]⟩
abbrev S256x1024 : Shape := ⟨2, ![256, 1024]⟩
abbrev S256x384 : Shape := ⟨2, ![256, 384]⟩
abbrev S256x3840 : Shape := ⟨2, ![256, 3840]⟩
abbrev S256 : Shape := ⟨1, ![256]⟩
abbrev S256x1 : Shape := ⟨2, ![256, 1]⟩
abbrev S1x256x3584 : Shape := ⟨3, ![1, 256, 3584]⟩
abbrev S1 : Shape := ⟨1, ![1]⟩
abbrev S1x1x1 : Shape := ⟨3, ![1, 1, 1]⟩
abbrev S1x256x1024 : Shape := ⟨3, ![1, 256, 1024]⟩
abbrev S256x416 : Shape := ⟨2, ![256, 416]⟩
abbrev S1x256x384 : Shape := ⟨3, ![1, 256, 384]⟩
abbrev S2x128x40x96 : Shape := ⟨4, ![2, 128, 40, 96]⟩
abbrev S256x6400 : Shape := ⟨2, ![256, 6400]⟩
abbrev S2x128x40x160 : Shape := ⟨4, ![2, 128, 40, 160]⟩
abbrev S256x32 : Shape := ⟨2, ![256, 32]⟩
abbrev S2x128x32 : Shape := ⟨3, ![2, 128, 32]⟩
abbrev S128x16 : Shape := ⟨2, ![128, 16]⟩
abbrev S2x128x40x64 : Shape := ⟨4, ![2, 128, 40, 64]⟩
abbrev S2x128x40x32 : Shape := ⟨4, ![2, 128, 40, 32]⟩
abbrev S128x1x16 : Shape := ⟨3, ![128, 1, 16]⟩
abbrev S2x128x40x16x2 : Shape := ⟨5, ![2, 128, 40, 16, 2]⟩
abbrev S2x128x40x16x1 : Shape := ⟨5, ![2, 128, 40, 16, 1]⟩
abbrev S2x128x40x16 : Shape := ⟨4, ![2, 128, 40, 16]⟩
abbrev S1x128x1x16 : Shape := ⟨4, ![1, 128, 1, 16]⟩
abbrev S2x128x16x2 : Shape := ⟨4, ![2, 128, 16, 2]⟩
abbrev S2x128x16x1 : Shape := ⟨4, ![2, 128, 16, 1]⟩
abbrev S2x128x16 : Shape := ⟨3, ![2, 128, 16]⟩
abbrev S1x128x16 : Shape := ⟨3, ![1, 128, 16]⟩
abbrev S2x40x128x128 : Shape := ⟨4, ![2, 40, 128, 128]⟩
abbrev S2x128x128x40 : Shape := ⟨4, ![2, 128, 128, 40]⟩
abbrev S128x128 : Shape := ⟨2, ![128, 128]⟩
abbrev S1x1x128x128 : Shape := ⟨4, ![1, 1, 128, 128]⟩
abbrev S2x40x128 : Shape := ⟨3, ![2, 40, 128]⟩
abbrev S2x40x128x1 : Shape := ⟨4, ![2, 40, 128, 1]⟩
abbrev S2x40x96x128 : Shape := ⟨4, ![2, 40, 96, 128]⟩
abbrev S1x256x3840 : Shape := ⟨3, ![1, 256, 3840]⟩

abbrev nBuf : Space → Nat
  | .hbm => 40
  | .vmem => 27
  | .smem => 0
  | _ => 0

abbrev bufTy : (tb : Table) → Fin (tcTables nBuf tb) → BufTy
  | .hbm, ⟨0, _⟩ => ⟨S2x128x3584, .bf16⟩
  | .hbm, ⟨1, _⟩ => ⟨S3584, .f32⟩
  | .hbm, ⟨2, _⟩ => ⟨S1024, .f32⟩
  | .hbm, ⟨3, _⟩ => ⟨S384, .f32⟩
  | .hbm, ⟨4, _⟩ => ⟨S3584x1024, .fp8e4m3⟩
  | .hbm, ⟨5, _⟩ => ⟨S1024, .f32⟩
  | .hbm, ⟨6, _⟩ => ⟨S1024x3840, .fp8e4m3⟩
  | .hbm, ⟨7, _⟩ => ⟨S3840, .f32⟩
  | .hbm, ⟨8, _⟩ => ⟨S3584x416, .fp8e4m3⟩
  | .hbm, ⟨9, _⟩ => ⟨S416, .f32⟩
  | .hbm, ⟨10, _⟩ => ⟨S384x6400, .fp8e4m3⟩
  | .hbm, ⟨11, _⟩ => ⟨S6400, .f32⟩
  | .hbm, ⟨12, _⟩ => ⟨S3840x3584, .fp8e4m3⟩
  | .hbm, ⟨13, _⟩ => ⟨S3584, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256x3584, .bf16⟩
  | .hbm, ⟨19, _⟩ => ⟨S1x3584, .f32⟩
  | .hbm, ⟨20, _⟩ => ⟨S1x1024, .f32⟩
  | .hbm, ⟨21, _⟩ => ⟨S1x384, .f32⟩
  | .hbm, ⟨22, _⟩ => ⟨S1x1024, .f32⟩
  | .hbm, ⟨23, _⟩ => ⟨S1x3840, .f32⟩
  | .hbm, ⟨24, _⟩ => ⟨S1x416, .f32⟩
  | .hbm, ⟨25, _⟩ => ⟨S1x6400, .f32⟩
  | .hbm, ⟨26, _⟩ => ⟨S1x3584, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S256x3584, .bf16⟩
  | .hbm, ⟨32, _⟩ => ⟨S256x3584, .fp8e4m3⟩
  | .hbm, ⟨33, _⟩ => ⟨S1x1, .f32⟩
  | .hbm, ⟨34, _⟩ => ⟨S256x1024, .fp8e4m3⟩
  | .hbm, ⟨35, _⟩ => ⟨S1x1, .f32⟩
  | .hbm, ⟨36, _⟩ => ⟨S256x384, .fp8e4m3⟩
  | .hbm, ⟨37, _⟩ => ⟨S1x1, .f32⟩
  | .hbm, ⟨38, _⟩ => ⟨S256x3840, .fp8e4m3⟩
  | .hbm, ⟨39, _⟩ => ⟨S1x1, .f32⟩
  | .local _ .vmem, ⟨0, _⟩ => ⟨S256x3584, .bf16⟩
  | .local _ .vmem, ⟨1, _⟩ => ⟨S1x3584, .f32⟩
  | .local _ .vmem, ⟨2, _⟩ => ⟨S1x1024, .f32⟩
  | .local _ .vmem, ⟨3, _⟩ => ⟨S1x384, .f32⟩
  | .local _ .vmem, ⟨4, _⟩ => ⟨S3584x1024, .fp8e4m3⟩
  | .local _ .vmem, ⟨5, _⟩ => ⟨S1x1024, .f32⟩
  | .local _ .vmem, ⟨6, _⟩ => ⟨S1024x3840, .fp8e4m3⟩
  | .local _ .vmem, ⟨7, _⟩ => ⟨S1x3840, .f32⟩
  | .local _ .vmem, ⟨8, _⟩ => ⟨S3584x416, .fp8e4m3⟩
  | .local _ .vmem, ⟨9, _⟩ => ⟨S1x416, .f32⟩
  | .local _ .vmem, ⟨10, _⟩ => ⟨S384x6400, .fp8e4m3⟩
  | .local _ .vmem, ⟨11, _⟩ => ⟨S1x6400, .f32⟩
  | .local _ .vmem, ⟨12, _⟩ => ⟨S3840x3584, .fp8e4m3⟩
  | .local _ .vmem, ⟨13, _⟩ => ⟨S1x3584, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S256x3584, .bf16⟩
  | .local _ .vmem, ⟨19, _⟩ => ⟨S256x3584, .fp8e4m3⟩
  | .local _ .vmem, ⟨20, _⟩ => ⟨S1x1, .f32⟩
  | .local _ .vmem, ⟨21, _⟩ => ⟨S256x1024, .fp8e4m3⟩
  | .local _ .vmem, ⟨22, _⟩ => ⟨S1x1, .f32⟩
  | .local _ .vmem, ⟨23, _⟩ => ⟨S256x384, .fp8e4m3⟩
  | .local _ .vmem, ⟨24, _⟩ => ⟨S1x1, .f32⟩
  | .local _ .vmem, ⟨25, _⟩ => ⟨S256x3840, .fp8e4m3⟩
  | .local _ .vmem, ⟨26, _⟩ => ⟨S1x1, .f32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev main_v13_4 : Ref sig .tc := ⟨.hbm, 35, rfl⟩
abbrev main_v13_5 : Ref sig .tc := ⟨.hbm, 36, rfl⟩
abbrev main_v13_6 : Ref sig .tc := ⟨.hbm, 37, rfl⟩
abbrev main_v13_7 : Ref sig .tc := ⟨.hbm, 38, rfl⟩
abbrev main_v13_8 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F] [Named F]

def κ : String → Option EReal := fun
  | "score_scale" => some (((Real.sqrt 96)⁻¹ : ℝ) : EReal)
  | _ => none

abbrev grid0 : Pipeline.Grid := .none

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x3840 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3840 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x416 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x416 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S384x6400 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x6400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3840x3584 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3584 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x3584 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x3584 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x1024 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x384 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x3840 .fp8e4m3 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Proof.KernelBlocks.lean ====
module

public import proofs.«01_k».proof.Proof.Gen.KernelIdeal.Value
public import Idealize.ShloMosaic.Lib.VecWindow

/-!
# What the kernel's windows hold

The kernel is one program without a grid: every window is one whole array. The body reads the argument arrays
(reshaped to matrices by the host; `w_kv_a` transposed).
-/

@[expose] public section

noncomputable section

namespace Cert.KernelIdeal.Arrays

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The only point of the launch. -/
abbrev t₀ : Fin cfg0.N := ⟨0, by decide⟩

/-! ## The argument arrays as the body reads them -/

/-- Argument `s_x` as a matrix. -/
abbrev s_x (c : Dev nD) : Vec F S1x1 .f32 := shapeCast S1x1 (m ((c : Thread nD τ).loc main_arg14)) shapeCasts_S_S1x1

theorem block0 (c : Dev nD) : iblk m c 0 t₀ = s_x m c := by
  have hz : (fun a => (win0_0.index t₀) a * main_v0.ty.shape.size a) = fun _ => 0 := funext fun a => Nat.zero_mul _
  have h := Memref.read_access_unit_zero (Elt F) main_v0 hz (fun a => by fin_cases a <;> decide) (V m c main_v0)
  exact h

/-- Argument `s_cq` as a matrix. -/
abbrev s_cq (c : Dev nD) : Vec F S1x1 .f32 := shapeCast S1x1 (m ((c : Thread nD τ).loc main_arg15)) shapeCasts_S_S1x1

theorem block1 (c : Dev nD) : iblk m c 1 t₀ = s_cq m c := by
  have hz : (fun a => (win0_1.index t₀) a * main_v1.ty.shape.size a) = fun _ => 0 := funext fun a => Nat.zero_mul _
  have h := Memref.read_access_unit_zero (Elt F) main_v1 hz (fun a => by fin_cases a <;> decide) (V m c main_v1)
  exact h

/-- Argument `s_ckv` as a matrix. -/
abbrev s_ckv (c : Dev nD) : Vec F S1x1 .f32 := shapeCast S1x1 (m ((c : Thread nD τ).loc main_arg16)) shapeCasts_S_S1x1

theorem block2 (c : Dev nD) : iblk m c 2 t₀ = s_ckv m c := by
  have hz : (fun a => (win0_2.index t₀) a * main_v2.ty.shape.size a) = fun _ => 0 := funext fun a => Nat.zero_mul _
  have h := Memref.read_access_unit_zero (Elt F) main_v2 hz (fun a => by fin_cases a <;> decide) (V m c main_v2)
  exact h

/-- Argument `s_o` as a matrix. -/
abbrev s_o (c : Dev nD) : Vec F S1x1 .f32 := shapeCast S1x1 (m ((c : Thread nD τ).loc main_arg17)) shapeCasts_S_S1x1

theorem block3 (c : Dev nD) : iblk m c 3 t₀ = s_o m c := by
  have hz : (fun a => (win0_3.index t₀) a * main_v3.ty.shape.size a) = fun _ => 0 := funext fun a => Nat.zero_mul _
  have h := Memref.read_access_unit_zero (Elt F) main_v3 hz (fun a => by fin_cases a <;> decide) (V m c main_v3)
  exact h

/-- Argument `x` as a matrix. -/
abbrev x (c : Dev nD) : Vec F S256x3584 .bf16 := shapeCast S256x3584 (m ((c : Thread nD τ).loc main_arg0)) shapeCasts_S2x128x3584_S256x3584

theorem block4 (c : Dev nD) : iblk m c 4 t₀ = x m c := by
  have hz : (fun a => (win0_4.index t₀) a * main_v4.ty.shape.size a) = fun _ => 0 := funext fun a => Nat.zero_mul _
  have h := Memref.read_access_unit_zero (Elt F) main_v4 hz (fun a => by fin_cases a <;> decide) (V m c main_v4)
  exact h

/-- Argument `g_in` as a matrix. -/
abbrev g_in (c : Dev nD) : Vec F S1x3584 .f32 := shapeCast S1x3584 (m ((c : Thread nD τ).loc main_arg1)) shapeCasts_S3584_S1x3584

theorem block5 (c : Dev nD) : iblk m c 5 t₀ = g_in m c := by
  have hz : (fun a => (win0_5.index t₀) a * main_v5.ty.shape.size a) = fun _ => 0 := funext fun a => Nat.zero_mul _
  have h := Memref.read_access_unit_zero (Elt F) main_v5 hz (fun a => by fin_cases a <;> decide) (V m c main_v5)
  exact h

/-- Argument `g_q` as a matrix. -/
abbrev g_q (c : Dev nD) : Vec F S1x1024 .f32 := shapeCast S1x1024 (m ((c : Thread nD τ).loc main_arg2)) shapeCasts_S1024_S1x1024

theorem block6 (c : Dev nD) : iblk m c 6 t₀ = g_q m c := by
  have hz : (fun a => (win0_6.index t₀) a * main_v6.ty.shape.size a) = fun _ => 0 := funext fun a => Nat.zero_mul _
  have h := Memref.read_access_unit_zero (Elt F) main_v6 hz (fun a => by fin_cases a <;> decide) (V m c main_v6)
  exact h

/-- Argument `g_kv` as a matrix. -/
abbrev g_kv (c : Dev nD) : Vec F S1x384 .f32 := shapeCast S1x384 (m ((c : Thread nD τ).loc main_arg3)) shapeCasts_S384_S1x384

theorem block7 (c : Dev nD) : iblk m c 7 t₀ = g_kv m c := by
  have hz : (fun a => (win0_7.index t₀) a * main_v7.ty.shape.size a) = fun _ => 0 := funext fun a => Nat.zero_mul _
  have h := Memref.read_access_unit_zero (Elt F) main_v7 hz (fun a => by fin_cases a <;> decide) (V m c main_v7)
  exact h

/-- Argument `w_q_a` as a matrix. -/
abbrev w_q_a (c : Dev nD) : Vec F S3584x1024 .fp8e4m3 := m ((c : Thread nD τ).loc main_arg4)

theorem block8 (c : Dev nD) : iblk m c 8 t₀ = w_q_a m c := by
  have hz : (fun a => (win0_8.index t₀) a * main_arg4.ty.shape.size a) = fun _ => 0 := funext fun a => Nat.zero_mul _
  have h := Memref.read_access_unit_zero (Elt F) main_arg4 hz (fun a => by fin_cases a <;> decide) (V m c main_arg4)
  exact h.trans (V_main_arg4 m c)

/-- Argument `s_q_a` as a matrix. -/
abbrev s_q_a (c : Dev nD) : Vec F S1x1024 .f32 := shapeCast S1x1024 (m ((c : Thread nD τ).loc main_arg5)) shapeCasts_S1024_S1x1024

theorem block9 (c : Dev nD) : iblk m c 9 t₀ = s_q_a m c := by
  have hz : (fun a => (win0_9.index t₀) a * main_v8.ty.shape.size a) = fun _ => 0 := funext fun a => Nat.zero_mul _
  have h := Memref.read_access_unit_zero (Elt F) main_v8 hz (fun a => by fin_cases a <;> decide) (V m c main_v8)
  exact h

/-- Argument `w_q_b` as a matrix. -/
abbrev w_q_b (c : Dev nD) : Vec F S1024x3840 .fp8e4m3 := m ((c : Thread nD τ).loc main_arg6)

theorem block10 (c : Dev nD) : iblk m c 10 t₀ = w_q_b m c := by
  have hz : (fun a => (win0_10.index t₀) a * main_arg6.ty.shape.size a) = fun _ => 0 := funext fun a => Nat.zero_mul _
  have h := Memref.read_access_unit_zero (Elt F) main_arg6 hz (fun a => by fin_cases a <;> decide) (V m c main_arg6)
  exact h.trans (V_main_arg6 m c)

/-- Argument `s_q_b` as a matrix. -/
abbrev s_q_b (c : Dev nD) : Vec F S1x3840 .f32 := shapeCast S1x3840 (m ((c : Thread nD τ).loc main_arg7)) shapeCasts_S3840_S1x3840

theorem block11 (c : Dev nD) : iblk m c 11 t₀ = s_q_b m c := by
  have hz : (fun a => (win0_11.index t₀) a * main_v9.ty.shape.size a) = fun _ => 0 := funext fun a => Nat.zero_mul _
  have h := Memref.read_access_unit_zero (Elt F) main_v9 hz (fun a => by fin_cases a <;> decide) (V m c main_v9)
  exact h

/-- Argument `w_kv_a` as the body reads it: transposed. -/
abbrev w_kv_a (c : Dev nD) : Vec F S416x3584 .fp8e4m3 := transpose S416x3584 [1, 0] (m ((c : Thread nD τ).loc main_arg8)) transposes_S3584x416_S416x3584_1_0

theorem block12 (c : Dev nD) : iblk m c 12 t₀ = w_kv_a m c := by
  have hz : (fun a => (win0_12.index t₀) a * main_v10.ty.shape.size a) = fun _ => 0 := funext fun a => Nat.zero_mul _
  have h := Memref.read_access_unit_zero (Elt F) main_v10 hz (fun a => by fin_cases a <;> decide) (V m c main_v10)
  exact h

/-- Argument `s_kv_a` as a matrix. -/
abbrev s_kv_a (c : Dev nD) : Vec F S1x416 .f32 := shapeCast S1x416 (m ((c : Thread nD τ).loc main_arg9)) shapeCasts_S416_S1x416

theorem block13 (c : Dev nD) : iblk m c 13 t₀ = s_kv_a m c := by
  have hz : (fun a => (win0_13.index t₀) a * main_v11.ty.shape.size a) = fun _ => 0 := funext fun a => Nat.zero_mul _
  have h := Memref.read_access_unit_zero (Elt F) main_v11 hz (fun a => by fin_cases a <;> decide) (V m c main_v11)
  exact h

/-- Argument `w_kv_b` as a matrix. -/
abbrev w_kv_b (c : Dev nD) : Vec F S384x6400 .fp8e4m3 := m ((c : Thread nD τ).loc main_arg10)

theorem block14 (c : Dev nD) : iblk m c 14 t₀ = w_kv_b m c := by
  have hz : (fun a => (win0_14.index t₀) a * main_arg10.ty.shape.size a) = fun _ => 0 := funext fun a => Nat.zero_mul _
  have h := Memref.read_access_unit_zero (Elt F) main_arg10 hz (fun a => by fin_cases a <;> decide) (V m c main_arg10)
  exact h.trans (V_main_arg10 m c)

/-- Argument `s_kv_b` as a matrix. -/
abbrev s_kv_b (c : Dev nD) : Vec F S1x6400 .f32 := shapeCast S1x6400 (m ((c : Thread nD τ).loc main_arg11)) shapeCasts_S6400_S1x6400

theorem block15 (c : Dev nD) : iblk m c 15 t₀ = s_kv_b m c := by
  have hz : (fun a => (win0_15.index t₀) a * main_v12.ty.shape.size a) = fun _ => 0 := funext fun a => Nat.zero_mul _
  have h := Memref.read_access_unit_zero (Elt F) main_v12 hz (fun a => by fin_cases a <;> decide) (V m c main_v12)
  exact h

/-- Argument `w_o` as a matrix. -/
abbrev w_o (c : Dev nD) : Vec F S3840x3584 .fp8e4m3 := m ((c : Thread nD τ).loc main_arg12)

theorem block16 (c : Dev nD) : iblk m c 16 t₀ = w_o m c := by
  have hz : (fun a => (win0_16.index t₀) a * main_arg12.ty.shape.size a) = fun _ => 0 := funext fun a => Nat.zero_mul _
  have h := Memref.read_access_unit_zero (Elt F) main_arg12 hz (fun a => by fin_cases a <;> decide) (V m c main_arg12)
  exact h.trans (V_main_arg12 m c)

/-- Argument `s_w_o` as a matrix. -/
abbrev s_w_o (c : Dev nD) : Vec F S1x3584 .f32 := shapeCast S1x3584 (m ((c : Thread nD τ).loc main_arg13)) shapeCasts_S3584_S1x3584

theorem block17 (c : Dev nD) : iblk m c 17 t₀ = s_w_o m c := by
  have hz : (fun a => (win0_17.index t₀) a * main_v13.ty.shape.size a) = fun _ => 0 := funext fun a => Nat.zero_mul _
  have h := Memref.read_access_unit_zero (Elt F) main_v13 hz (fun a => by fin_cases a <;> decide) (V m c main_v13)
  exact h

end Cert.KernelIdeal.Arrays

end
-- ==== Proof.KernelStores.lean ====
module

public import proofs.«01_k».proof.Proof.KernelBlocks
public import Idealize.ShloMosaic.Lib.VecWindow
public import Idealize.ShloMosaic.Lib.Pointwise

/-!
# What the kernel's body stores in the small results

The body's results two to seven, as functions of the arrays it reads: the codes and the largest absolute value of
the normalised input, of the query latent and of the key-value latent.
-/

@[expose] public section

noncomputable section

namespace Cert.KernelIdeal.Arrays

open Cert.KernelIdeal Cert.KernelIdeal.Gen Idealize.ShloMosaic Idealize.ShloMosaic.TcCoe Idealize.SL.Sem

variable {F : FTy → Type} [FloatOps F] [Named F]

/-- The offsets of a load or store of a whole matrix. -/
theorem hz2 : (![0, 0] : Fin 2 → Nat) = fun _ => 0 := funext fun a => by fin_cases a <;> rfl

/-- A load of a whole buffer reads the buffer. -/
theorem readAt_whole {sp : Space} {S : Shape} {e : EltTy} {r : Memref sig .tc sp S e} (h : r.IsWhole)
    {off : Fin S.rank → Nat} (hz : off = fun _ => 0) (inb : ∀ a, off a + S.size a ≤ S.size a) (X : Vec F S e) :
    View.readAt (Elt F) r.view (Rect.unit off S.size inb).toLoadRect (h.unread X) = X := by
  rw [View.readAt_eq_ld, Memref.IsWhole.read_unread]
  exact View.ld_unit_zero hz inb X

section Stores

variable (c : Dev nD) (arg0 : Memref sig .tc .smem S1x1 .f32) (harg0 : arg0.IsWhole) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S256x3584 .bf16) (harg4 : arg4.IsWhole) (arg5 : Memref sig .tc .vmem S1x3584 .f32) (harg5 : arg5.IsWhole) (arg6 : Memref sig .tc .vmem S1x1024 .f32) (harg6 : arg6.IsWhole) (arg7 : Memref sig .tc .vmem S1x384 .f32) (harg7 : arg7.IsWhole) (arg8 : Memref sig .tc .vmem S3584x1024 .fp8e4m3) (harg8 : arg8.IsWhole) (arg9 : Memref sig .tc .vmem S1x1024 .f32) (harg9 : arg9.IsWhole) (arg10 : Memref sig .tc .vmem S1024x3840 .fp8e4m3) (harg10 : arg10.IsWhole) (arg11 : Memref sig .tc .vmem S1x3840 .f32) (harg11 : arg11.IsWhole) (arg12 : Memref sig .tc .vmem S416x3584 .fp8e4m3) (harg12 : arg12.IsWhole) (arg13 : Memref sig .tc .vmem S1x416 .f32) (harg13 : arg13.IsWhole) (arg14 : Memref sig .tc .vmem S384x6400 .fp8e4m3) (harg14 : arg14.IsWhole) (arg15 : Memref sig .tc .vmem S1x6400 .f32) (harg15 : arg15.IsWhole) (arg16 : Memref sig .tc .vmem S3840x3584 .fp8e4m3) (harg16 : arg16.IsWhole) (arg17 : Memref sig .tc .vmem S1x3584 .f32) (harg17 : arg17.IsWhole) (arg18 : Memref sig .tc .vmem S256x3584 .bf16) (harg18 : arg18.IsWhole) (arg19 : Memref sig .tc .vmem S256x3584 .fp8e4m3) (harg19 : arg19.IsWhole) (arg20 : Memref sig .tc .vmem S1x1 .f32) (harg20 : arg20.IsWhole) (arg21 : Memref sig .tc .vmem S256x1024 .fp8e4m3) (harg21 : arg21.IsWhole) (arg22 : Memref sig .tc .vmem S1x1 .f32) (harg22 : arg22.IsWhole) (arg23 : Memref sig .tc .vmem S256x384 .fp8e4m3) (harg23 : arg23.IsWhole) (arg24 : Memref sig .tc .vmem S1x1 .f32) (harg24 : arg24.IsWhole) (arg25 : Memref sig .tc .vmem S256x3840 .fp8e4m3) (harg25 : arg25.IsWhole) (arg26 : Memref sig .tc .vmem S1x1 .f32) (harg26 : arg26.IsWhole) (arg27 : Memref sig .tc .vmem S40x256x256 .bf16) (harg27 : arg27.IsWhole) (arg28 : Memref sig .tc .vmem S256x5120 .bf16) (harg28 : arg28.IsWhole) (arg29 : Memref sig .tc .vmem S40x256x256 .bf16) (harg29 : arg29.IsWhole)
variable (s_x : Vec F S1x1 .f32) (s_cq : Vec F S1x1 .f32) (s_ckv : Vec F S1x1 .f32) (s_o : Vec F S1x1 .f32) (x : Vec F S256x3584 .bf16) (g_in : Vec F S1x3584 .f32) (g_q : Vec F S1x1024 .f32) (g_kv : Vec F S1x384 .f32) (w_q_a : Vec F S3584x1024 .fp8e4m3) (s_q_a : Vec F S1x1024 .f32) (w_q_b : Vec F S1024x3840 .fp8e4m3) (s_q_b : Vec F S1x3840 .f32) (w_kv_a : Vec F S416x3584 .fp8e4m3) (s_kv_a : Vec F S1x416 .f32) (w_kv_b : Vec F S384x6400 .fp8e4m3) (s_kv_b : Vec F S1x6400 .f32) (w_o : Vec F S3840x3584 .fp8e4m3) (s_w_o : Vec F S1x3584 .f32)

/-- A scale as the body reads it. -/
abbrev scalar (s : Vec F S1x1 .f32) : Elt F .f32 := s (ix2 0 0)

/-- The codes of the normalised input. -/
abbrev xCodes := k0_pay4 (scalar s_x) x g_in

/-- The codes of the query latent. -/
abbrev cqCodes := k0_pay7 (scalar s_x) (scalar s_cq) (xCodes s_x x g_in) w_q_a s_q_a g_q

/-- The first 384 scales of the key-value projection. -/
abbrev s_kv_a₀ : Vec F S1x384 .f32 := View.ld s_kv_a (Rect.unit (s := S1x416) ![0, 0] S1x384.size inb_S1x416_S1x384_0_0)

/-- The codes of the key-value latent. -/
abbrev ckvCodes := k0_pay12 (k0_pay11 (scalar s_x) (scalar s_ckv) w_kv_a (xCodes s_x x g_in) (s_kv_a₀ s_kv_a) g_kv) (Scalar.ofBits .f32 0xC3E00000#32) (Scalar.ofBits .f32 0x43E00000#32)

theorem first_eq : Shape.Idx.first (s := S1x1) (by decide) = ix2 0 0 :=
  funext fun a => by fin_cases a <;> rfl

theorem r_eq : kernelRun0_A.sl.r c arg0 harg0 s_x = scalar s_x := by
  unfold kernelRun0_A.sl.r
  rw [readAt_whole harg0 hz2, first_eq]

theorem r_1_eq : kernelRun0_A.sl.r_1 c arg1 harg1 s_cq = scalar s_cq := by
  unfold kernelRun0_A.sl.r_1
  rw [readAt_whole harg1 hz2, first_eq]

theorem r_2_eq : kernelRun0_A.sl.r_2 c arg2 harg2 s_ckv = scalar s_ckv := by
  unfold kernelRun0_A.sl.r_2
  rw [readAt_whole harg2 hz2, first_eq]

theorem r_3_eq : kernelRun0_A.sl.r_3 c arg3 harg3 s_o = scalar s_o := by
  unfold kernelRun0_A.sl.r_3
  rw [readAt_whole harg3 hz2, first_eq]

theorem v35_eq : kernelRun0_A.sl.v35 c arg0 harg0 arg4 harg4 arg5 harg5 s_x x g_in = xCodes s_x x g_in := by
  have e : kernelRun0_A.sl.v35 c arg0 harg0 arg4 harg4 arg5 harg5 s_x x g_in
      = k0_pay4 (kernelRun0_A.sl.r c arg0 harg0 s_x)
          (View.readAt (Elt F) arg4.view (Rect.unit ![0, 0] S256x3584.size inb_S256x3584_S256x3584_0_0).toLoadRect (harg4.unread x))
          (View.readAt (Elt F) arg5.view (Rect.unit ![0, 0] S1x3584.size inb_S1x3584_S1x3584_0_0).toLoadRect (harg5.unread g_in)) := rfl
  rw [e, r_eq, readAt_whole harg4 hz2, readAt_whole harg5 hz2]

theorem v37_eq : kernelRun0_A.sl.v37 c arg0 harg0 arg4 harg4 arg5 harg5 arg19 s_x x g_in = xCodes s_x x g_in := by
  unfold kernelRun0_A.sl.v37 kernelRun0_A.sl.H19_1
  rw [View.readCov_full, v35_eq]

theorem out19_eq : out0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o = xCodes s_x x g_in := by
  unfold out0_A_19 kernelRun0_A
  dsimp only
  unfold kernelRun0_A.sl.H19_1
  rw [View.read_writes_full VO0_19]
  exact v35_eq _ _ _ _ _ _ _ _ _ _

theorem out20_eq : out0_A_20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o = k0_pay3 x g_in := by
  unfold out0_A_20 kernelRun0_A
  dsimp only
  rw [View.read_writes_full VO0_20]
  refine Eq.trans (b := k0_pay3 (View.readAt (Elt F) arg4.view (Rect.unit ![0, 0] S256x3584.size inb_S256x3584_S256x3584_0_0).toLoadRect (harg4.unread x)) (View.readAt (Elt F) arg5.view (Rect.unit ![0, 0] S1x3584.size inb_S1x3584_S1x3584_0_0).toLoadRect (harg5.unread g_in))) (by sl_kernel_rfl) ?_
  rw [readAt_whole harg4 hz2, readAt_whole harg5 hz2]

theorem out21_eq : out0_A_21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o = cqCodes s_x s_cq x g_in g_q w_q_a s_q_a := by
  unfold out0_A_21 kernelRun0_A
  dsimp only
  unfold kernelRun0_A.sl.H21_1
  rw [View.read_writes_full VO0_21]
  refine Eq.trans (b := k0_pay7 (kernelRun0_A.sl.r c arg0 harg0 s_x) (kernelRun0_A.sl.r_1 c arg1 harg1 s_cq) (kernelRun0_A.sl.v37 c arg0 harg0 arg4 harg4 arg5 harg5 arg19 s_x x g_in) (View.readAt (Elt F) arg8.view (Rect.unit ![0, 0] S3584x1024.size inb_S3584x1024_S3584x1024_0_0).toLoadRect (harg8.unread w_q_a)) (View.readAt (Elt F) arg9.view (Rect.unit ![0, 0] S1x1024.size inb_S1x1024_S1x1024_0_0).toLoadRect (harg9.unread s_q_a)) (View.readAt (Elt F) arg6.view (Rect.unit ![0, 0] S1x1024.size inb_S1x1024_S1x1024_0_0).toLoadRect (harg6.unread g_q))) (by sl_kernel_rfl) ?_
  rw [r_eq, r_1_eq, v37_eq, readAt_whole harg8 hz2, readAt_whole harg9 hz2, readAt_whole harg6 hz2]

theorem out22_eq : out0_A_22 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o = k0_pay6 (scalar s_x) (xCodes s_x x g_in) w_q_a s_q_a g_q := by
  unfold out0_A_22 kernelRun0_A
  dsimp only
  rw [View.read_writes_full VO0_22]
  refine Eq.trans (b := k0_pay6 (kernelRun0_A.sl.r c arg0 harg0 s_x) (kernelRun0_A.sl.v37 c arg0 harg0 arg4 harg4 arg5 harg5 arg19 s_x x g_in) (View.readAt (Elt F) arg8.view (Rect.unit ![0, 0] S3584x1024.size inb_S3584x1024_S3584x1024_0_0).toLoadRect (harg8.unread w_q_a)) (View.readAt (Elt F) arg9.view (Rect.unit ![0, 0] S1x1024.size inb_S1x1024_S1x1024_0_0).toLoadRect (harg9.unread s_q_a)) (View.readAt (Elt F) arg6.view (Rect.unit ![0, 0] S1x1024.size inb_S1x1024_S1x1024_0_0).toLoadRect (harg6.unread g_q))) (by sl_kernel_rfl) ?_
  rw [r_eq, v37_eq, readAt_whole harg8 hz2, readAt_whole harg9 hz2, readAt_whole harg6 hz2]

theorem out23_eq : out0_A_23 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o = ckvCodes s_x s_ckv x g_in g_kv w_kv_a s_kv_a := by
  unfold out0_A_23 kernelRun0_A
  dsimp only
  unfold kernelRun0_A.sl.H23_1
  rw [View.read_writes_full VO0_23]
  refine Eq.trans (b := k0_pay12 (k0_pay11 (kernelRun0_A.sl.r c arg0 harg0 s_x) (kernelRun0_A.sl.r_2 c arg2 harg2 s_ckv) (View.readAt (Elt F) arg12.view (Rect.unit ![0, 0] S416x3584.size inb_S416x3584_S416x3584_0_0).toLoadRect (harg12.unread w_kv_a)) (kernelRun0_A.sl.v37 c arg0 harg0 arg4 harg4 arg5 harg5 arg19 s_x x g_in) (View.readAt (Elt F) arg13.view (Rect.unit (s := S1x416) ![0, 0] S1x384.size inb_S1x416_S1x384_0_0).toLoadRect (harg13.unread s_kv_a)) (View.readAt (Elt F) arg7.view (Rect.unit ![0, 0] S1x384.size inb_S1x384_S1x384_0_0).toLoadRect (harg7.unread g_kv))) (Scalar.ofBits .f32 0xC3E00000#32) (Scalar.ofBits .f32 0x43E00000#32)) (by sl_kernel_rfl) ?_
  rw [r_eq, r_2_eq, v37_eq, readAt_whole harg12 hz2, readAt_whole harg7 hz2, View.readAt_eq_ld, Memref.IsWhole.read_unread]

theorem out24_eq : out0_A_24 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o = k0_pay10 (scalar s_x) w_kv_a (xCodes s_x x g_in) (s_kv_a₀ s_kv_a) g_kv := by
  unfold out0_A_24 kernelRun0_A
  dsimp only
  rw [View.read_writes_full VO0_24]
  refine Eq.trans (b := k0_pay10 (kernelRun0_A.sl.r c arg0 harg0 s_x) (View.readAt (Elt F) arg12.view (Rect.unit ![0, 0] S416x3584.size inb_S416x3584_S416x3584_0_0).toLoadRect (harg12.unread w_kv_a)) (kernelRun0_A.sl.v37 c arg0 harg0 arg4 harg4 arg5 harg5 arg19 s_x x g_in) (View.readAt (Elt F) arg13.view (Rect.unit (s := S1x416) ![0, 0] S1x384.size inb_S1x416_S1x384_0_0).toLoadRect (harg13.unread s_kv_a)) (View.readAt (Elt F) arg7.view (Rect.unit ![0, 0] S1x384.size inb_S1x384_S1x384_0_0).toLoadRect (harg7.unread g_kv))) (by sl_kernel_rfl) ?_
  rw [r_eq, v37_eq, readAt_whole harg12 hz2, readAt_whole harg7 hz2, View.readAt_eq_ld, Memref.IsWhole.read_unread]

end Stores

end Cert.KernelIdeal.Arrays

end
-- ==== Proof.KernelArrays.lean ====
module

public import proofs.«01_k».proof.Proof.KernelStores

/-!
# What the kernel's small result arrays hold after a run
-/

@[expose] public section

noncomputable section

namespace Cert.KernelIdeal.Arrays

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The array of the input's codes after a run. -/
theorem array19 (c : Dev nD) : (dats m 0 c).arrAt 19 cfg0.N = xCodes (s_x m c) (x m c) (g_in m c) := by
  have hz : (fun a => (win0_19.index t₀) a * main_v14_1.ty.shape.size a) = fun _ => 0 := funext fun a => Nat.zero_mul _
  refine (Memref.read_access_unit_zero (Elt F) main_v14_1 hz (fun a => by fin_cases a <;> decide) _).symm.trans ?_
  refine (Value.blocks19 m c t₀ (by decide)).trans ?_
  rw [Value.flushed19_A]
  refine Eq.trans ?_ (out19_eq c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (w_kv_a m c) (s_kv_a m c) (w_kv_b m c) (s_kv_b m c) (w_o m c) (s_w_o m c))
  rw [← block0, ← block1, ← block2, ← block3, ← block4, ← block5, ← block6, ← block7, ← block8, ← block9, ← block10, ← block11, ← block12, ← block13, ← block14, ← block15, ← block16, ← block17]
  rfl

/-- The array of the largest normalised input after a run. -/
theorem array20 (c : Dev nD) : (dats m 0 c).arrAt 20 cfg0.N = k0_pay3 (x m c) (g_in m c) := by
  have hz : (fun a => (win0_20.index t₀) a * main_v14_2.ty.shape.size a) = fun _ => 0 := funext fun a => Nat.zero_mul _
  refine (Memref.read_access_unit_zero (Elt F) main_v14_2 hz (fun a => by fin_cases a <;> decide) _).symm.trans ?_
  refine (Value.blocks20 m c t₀ (by decide)).trans ?_
  rw [Value.flushed20_A]
  refine Eq.trans ?_ (out20_eq c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (w_kv_a m c) (s_kv_a m c) (w_kv_b m c) (s_kv_b m c) (w_o m c) (s_w_o m c))
  rw [← block0, ← block1, ← block2, ← block3, ← block4, ← block5, ← block6, ← block7, ← block8, ← block9, ← block10, ← block11, ← block12, ← block13, ← block14, ← block15, ← block16, ← block17]
  rfl

/-- The array of the query latent's codes after a run. -/
theorem array21 (c : Dev nD) : (dats m 0 c).arrAt 21 cfg0.N = cqCodes (s_x m c) (s_cq m c) (x m c) (g_in m c) (g_q m c) (w_q_a m c) (s_q_a m c) := by
  have hz : (fun a => (win0_21.index t₀) a * main_v14_3.ty.shape.size a) = fun _ => 0 := funext fun a => Nat.zero_mul _
  refine (Memref.read_access_unit_zero (Elt F) main_v14_3 hz (fun a => by fin_cases a <;> decide) _).symm.trans ?_
  refine (Value.blocks21 m c t₀ (by decide)).trans ?_
  rw [Value.flushed21_A]
  refine Eq.trans ?_ (out21_eq c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (w_kv_a m c) (s_kv_a m c) (w_kv_b m c) (s_kv_b m c) (w_o m c) (s_w_o m c))
  rw [← block0, ← block1, ← block2, ← block3, ← block4, ← block5, ← block6, ← block7, ← block8, ← block9, ← block10, ← block11, ← block12, ← block13, ← block14, ← block15, ← block16, ← block17]
  rfl

/-- The array of the largest query latent after a run. -/
theorem array22 (c : Dev nD) : (dats m 0 c).arrAt 22 cfg0.N = k0_pay6 (scalar (s_x m c)) (xCodes (s_x m c) (x m c) (g_in m c)) (w_q_a m c) (s_q_a m c) (g_q m c) := by
  have hz : (fun a => (win0_22.index t₀) a * main_v14_4.ty.shape.size a) = fun _ => 0 := funext fun a => Nat.zero_mul _
  refine (Memref.read_access_unit_zero (Elt F) main_v14_4 hz (fun a => by fin_cases a <;> decide) _).symm.trans ?_
  refine (Value.blocks22 m c t₀ (by decide)).trans ?_
  rw [Value.flushed22_A]
  refine Eq.trans ?_ (out22_eq c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (w_kv_a m c) (s_kv_a m c) (w_kv_b m c) (s_kv_b m c) (w_o m c) (s_w_o m c))
  rw [← block0, ← block1, ← block2, ← block3, ← block4, ← block5, ← block6, ← block7, ← block8, ← block9, ← block10, ← block11, ← block12, ← block13, ← block14, ← block15, ← block16, ← block17]
  rfl

/-- The array of the key-value latent's codes after a run. -/
theorem array23 (c : Dev nD) : (dats m 0 c).arrAt 23 cfg0.N = ckvCodes (s_x m c) (s_ckv m c) (x m c) (g_in m c) (g_kv m c) (w_kv_a m c) (s_kv_a m c) := by
  have hz : (fun a => (win0_23.index t₀) a * main_v14_5.ty.shape.size a) = fun _ => 0 := funext fun a => Nat.zero_mul _
  refine (Memref.read_access_unit_zero (Elt F) main_v14_5 hz (fun a => by fin_cases a <;> decide) _).symm.trans ?_
  refine (Value.blocks23 m c t₀ (by decide)).trans ?_
  rw [Value.flushed23_A]
  refine Eq.trans ?_ (out23_eq c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (w_kv_a m c) (s_kv_a m c) (w_kv_b m c) (s_kv_b m c) (w_o m c) (s_w_o m c))
  rw [← block0, ← block1, ← block2, ← block3, ← block4, ← block5, ← block6, ← block7, ← block8, ← block9, ← block10, ← block11, ← block12, ← block13, ← block14, ← block15, ← block16, ← block17]
  rfl

/-- The array of the largest key-value latent after a run. -/
theorem array24 (c : Dev nD) : (dats m 0 c).arrAt 24 cfg0.N = k0_pay10 (scalar (s_x m c)) (w_kv_a m c) (xCodes (s_x m c) (x m c) (g_in m c)) (s_kv_a₀ (s_kv_a m c)) (g_kv m c) := by
  have hz : (fun a => (win0_24.index t₀) a * main_v14_6.ty.shape.size a) = fun _ => 0 := funext fun a => Nat.zero_mul _
  refine (Memref.read_access_unit_zero (Elt F) main_v14_6 hz (fun a => by fin_cases a <;> decide) _).symm.trans ?_
  refine (Value.blocks24 m c t₀ (by decide)).trans ?_
  rw [Value.flushed24_A]
  refine Eq.trans ?_ (out24_eq c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (w_kv_a m c) (s_kv_a m c) (w_kv_b m c) (s_kv_b m c) (w_o m c) (s_w_o m c))
  rw [← block0, ← block1, ← block2, ← block3, ← block4, ← block5, ← block6, ← block7, ← block8, ← block9, ← block10, ← block11, ← block12, ← block13, ← block14, ← block15, ← block16, ← block17]
  rfl

end Cert.KernelIdeal.Arrays

end
-- ==== Proof.ReferenceArrays.lean ====
module

public import proofs.«01_k».proof.Proof.Gen.ReferenceIdeal.Value

/-!
# What the reference's arrays hold after a run

The reference is one program without a grid: every window is one whole array. Each result array holds the
value the body stored, as a function of the argument arrays (reshaped to matrices by the host).
-/

@[expose] public section

noncomputable section

namespace Cert.ReferenceIdeal.Arrays

open Cert.ReferenceIdeal Cert.ReferenceIdeal.Gen Idealize.ShloMosaic Idealize.ShloMosaic.TcCoe Idealize.SL.Sem

variable {F : FTy → Type} [FloatOps F] [Named F]
variable (m : (ℓ : Loc nD τ sig) → Buf (Elt F) ℓ)

/-- The only point of the launch. -/
abbrev t₀ : Fin cfg0.N := ⟨0, by decide⟩

/-- The offsets of a load or store of a whole matrix. -/
theorem hz2 : (![0, 0] : Fin 2 → Nat) = fun _ => 0 := funext fun a => by fin_cases a <;> rfl

/-! ## The argument arrays as the body reads them -/

/-- Argument `x` as a matrix. -/
abbrev x (c : Dev nD) : Vec F S256x3584 .bf16 := shapeCast S256x3584 (m ((c : Thread nD τ).loc main_arg0)) shapeCasts_S2x128x3584_S256x3584

theorem block0 (c : Dev nD) : iblk m c 0 t₀ = x m c := by
  have hz : (fun a => (win0_0.index t₀) a * main_v0.ty.shape.size a) = fun _ => 0 := funext fun a => Nat.zero_mul _
  have h := Memref.read_access_unit_zero (Elt F) main_v0 hz (fun a => by fin_cases a <;> decide) (V m c main_v0)
  exact h

/-- Argument `g_in` as a matrix. -/
abbrev g_in (c : Dev nD) : Vec F S1x3584 .f32 := shapeCast S1x3584 (m ((c : Thread nD τ).loc main_arg1)) shapeCasts_S3584_S1x3584

theorem block1 (c : Dev nD) : iblk m c 1 t₀ = g_in m c := by
  have hz : (fun a => (win0_1.index t₀) a * main_v1.ty.shape.size a) = fun _ => 0 := funext fun a => Nat.zero_mul _
  have h := Memref.read_access_unit_zero (Elt F) main_v1 hz (fun a => by fin_cases a <;> decide) (V m c main_v1)
  exact h

/-- Argument `g_q` as a matrix. -/
abbrev g_q (c : Dev nD) : Vec F S1x1024 .f32 := shapeCast S1x1024 (m ((c : Thread nD τ).loc main_arg2)) shapeCasts_S1024_S1x1024

theorem block2 (c : Dev nD) : iblk m c 2 t₀ = g_q m c := by
  have hz : (fun a => (win0_2.index t₀) a * main_v2.ty.shape.size a) = fun _ => 0 := funext fun a => Nat.zero_mul _
  have h := Memref.read_access_unit_zero (Elt F) main_v2 hz (fun a => by fin_cases a <;> decide) (V m c main_v2)
  exact h

/-- Argument `g_kv` as a matrix. -/
abbrev g_kv (c : Dev nD) : Vec F S1x384 .f32 := shapeCast S1x384 (m ((c : Thread nD τ).loc main_arg3)) shapeCasts_S384_S1x384

theorem block3 (c : Dev nD) : iblk m c 3 t₀ = g_kv m c := by
  have hz : (fun a => (win0_3.index t₀) a * main_v3.ty.shape.size a) = fun _ => 0 := funext fun a => Nat.zero_mul _
  have h := Memref.read_access_unit_zero (Elt F) main_v3 hz (fun a => by fin_cases a <;> decide) (V m c main_v3)
  exact h

/-- Argument `w_q_a` as a matrix. -/
abbrev w_q_a (c : Dev nD) : Vec F S3584x1024 .fp8e4m3 := m ((c : Thread nD τ).loc main_arg4)

theorem block4 (c : Dev nD) : iblk m c 4 t₀ = w_q_a m c := by
  have hz : (fun a => (win0_4.index t₀) a * main_arg4.ty.shape.size a) = fun _ => 0 := funext fun a => Nat.zero_mul _
  have h := Memref.read_access_unit_zero (Elt F) main_arg4 hz (fun a => by fin_cases a <;> decide) (V m c main_arg4)
  exact h.trans (V_main_arg4 m c)

/-- Argument `s_q_a` as a matrix. -/
abbrev s_q_a (c : Dev nD) : Vec F S1x1024 .f32 := shapeCast S1x1024 (m ((c : Thread nD τ).loc main_arg5)) shapeCasts_S1024_S1x1024

theorem block5 (c : Dev nD) : iblk m c 5 t₀ = s_q_a m c := by
  have hz : (fun a => (win0_5.index t₀) a * main_v4.ty.shape.size a) = fun _ => 0 := funext fun a => Nat.zero_mul _
  have h := Memref.read_access_unit_zero (Elt F) main_v4 hz (fun a => by fin_cases a <;> decide) (V m c main_v4)
  exact h

/-- Argument `w_q_b` as a matrix. -/
abbrev w_q_b (c : Dev nD) : Vec F S1024x3840 .fp8e4m3 := m ((c : Thread nD τ).loc main_arg6)

theorem block6 (c : Dev nD) : iblk m c 6 t₀ = w_q_b m c := by
  have hz : (fun a => (win0_6.index t₀) a * main_arg6.ty.shape.size a) = fun _ => 0 := funext fun a => Nat.zero_mul _
  have h := Memref.read_access_unit_zero (Elt F) main_arg6 hz (fun a => by fin_cases a <;> decide) (V m c main_arg6)
  exact h.trans (V_main_arg6 m c)

/-- Argument `s_q_b` as a matrix. -/
abbrev s_q_b (c : Dev nD) : Vec F S1x3840 .f32 := shapeCast S1x3840 (m ((c : Thread nD τ).loc main_arg7)) shapeCasts_S3840_S1x3840

theorem block7 (c : Dev nD) : iblk m c 7 t₀ = s_q_b m c := by
  have hz : (fun a => (win0_7.index t₀) a * main_v5.ty.shape.size a) = fun _ => 0 := funext fun a => Nat.zero_mul _
  have h := Memref.read_access_unit_zero (Elt F) main_v5 hz (fun a => by fin_cases a <;> decide) (V m c main_v5)
  exact h

/-- Argument `w_kv_a` as a matrix. -/
abbrev w_kv_a (c : Dev nD) : Vec F S3584x416 .fp8e4m3 := m ((c : Thread nD τ).loc main_arg8)

theorem block8 (c : Dev nD) : iblk m c 8 t₀ = w_kv_a m c := by
  have hz : (fun a => (win0_8.index t₀) a * main_arg8.ty.shape.size a) = fun _ => 0 := funext fun a => Nat.zero_mul _
  have h := Memref.read_access_unit_zero (Elt F) main_arg8 hz (fun a => by fin_cases a <;> decide) (V m c main_arg8)
  exact h.trans (V_main_arg8 m c)

/-- Argument `s_kv_a` as a matrix. -/
abbrev s_kv_a (c : Dev nD) : Vec F S1x416 .f32 := shapeCast S1x416 (m ((c : Thread nD τ).loc main_arg9)) shapeCasts_S416_S1x416

theorem block9 (c : Dev nD) : iblk m c 9 t₀ = s_kv_a m c := by
  have hz : (fun a => (win0_9.index t₀) a * main_v6.ty.shape.size a) = fun _ => 0 := funext fun a => Nat.zero_mul _
  have h := Memref.read_access_unit_zero (Elt F) main_v6 hz (fun a => by fin_cases a <;> decide) (V m c main_v6)
  exact h

/-- Argument `w_kv_b` as a matrix. -/
abbrev w_kv_b (c : Dev nD) : Vec F S384x6400 .fp8e4m3 := m ((c : Thread nD τ).loc main_arg10)

theorem block10 (c : Dev nD) : iblk m c 10 t₀ = w_kv_b m c := by
  have hz : (fun a => (win0_10.index t₀) a * main_arg10.ty.shape.size a) = fun _ => 0 := funext fun a => Nat.zero_mul _
  have h := Memref.read_access_unit_zero (Elt F) main_arg10 hz (fun a => by fin_cases a <;> decide) (V m c main_arg10)
  exact h.trans (V_main_arg10 m c)

/-- Argument `s_kv_b` as a matrix. -/
abbrev s_kv_b (c : Dev nD) : Vec F S1x6400 .f32 := shapeCast S1x6400 (m ((c : Thread nD τ).loc main_arg11)) shapeCasts_S6400_S1x6400

theorem block11 (c : Dev nD) : iblk m c 11 t₀ = s_kv_b m c := by
  have hz : (fun a => (win0_11.index t₀) a * main_v7.ty.shape.size a) = fun _ => 0 := funext fun a => Nat.zero_mul _
  have h := Memref.read_access_unit_zero (Elt F) main_v7 hz (fun a => by fin_cases a <;> decide) (V m c main_v7)
  exact h

/-- Argument `w_o` as a matrix. -/
abbrev w_o (c : Dev nD) : Vec F S3840x3584 .fp8e4m3 := m ((c : Thread nD τ).loc main_arg12)

theorem block12 (c : Dev nD) : iblk m c 12 t₀ = w_o m c := by
  have hz : (fun a => (win0_12.index t₀) a * main_arg12.ty.shape.size a) = fun _ => 0 := funext fun a => Nat.zero_mul _
  have h := Memref.read_access_unit_zero (Elt F) main_arg12 hz (fun a => by fin_cases a <;> decide) (V m c main_arg12)
  exact h.trans (V_main_arg12 m c)

/-- Argument `s_w_o` as a matrix. -/
abbrev s_w_o (c : Dev nD) : Vec F S1x3584 .f32 := shapeCast S1x3584 (m ((c : Thread nD τ).loc main_arg13)) shapeCasts_S3584_S1x3584

theorem block13 (c : Dev nD) : iblk m c 13 t₀ = s_w_o m c := by
  have hz : (fun a => (win0_13.index t₀) a * main_v8.ty.shape.size a) = fun _ => 0 := funext fun a => Nat.zero_mul _
  have h := Memref.read_access_unit_zero (Elt F) main_v8 hz (fun a => by fin_cases a <;> decide) (V m c main_v8)
  exact h

/-- Argument `s_x` as a matrix. -/
abbrev s_x (c : Dev nD) : Vec F S1x1 .f32 := shapeCast S1x1 (m ((c : Thread nD τ).loc main_arg14)) shapeCasts_S_S1x1

theorem block14 (c : Dev nD) : iblk m c 14 t₀ = s_x m c := by
  have hz : (fun a => (win0_14.index t₀) a * main_v9.ty.shape.size a) = fun _ => 0 := funext fun a => Nat.zero_mul _
  have h := Memref.read_access_unit_zero (Elt F) main_v9 hz (fun a => by fin_cases a <;> decide) (V m c main_v9)
  exact h

/-- Argument `s_cq` as a matrix. -/
abbrev s_cq (c : Dev nD) : Vec F S1x1 .f32 := shapeCast S1x1 (m ((c : Thread nD τ).loc main_arg15)) shapeCasts_S_S1x1

theorem block15 (c : Dev nD) : iblk m c 15 t₀ = s_cq m c := by
  have hz : (fun a => (win0_15.index t₀) a * main_v10.ty.shape.size a) = fun _ => 0 := funext fun a => Nat.zero_mul _
  have h := Memref.read_access_unit_zero (Elt F) main_v10 hz (fun a => by fin_cases a <;> decide) (V m c main_v10)
  exact h

/-- Argument `s_ckv` as a matrix. -/
abbrev s_ckv (c : Dev nD) : Vec F S1x1 .f32 := shapeCast S1x1 (m ((c : Thread nD τ).loc main_arg16)) shapeCasts_S_S1x1

theorem block16 (c : Dev nD) : iblk m c 16 t₀ = s_ckv m c := by
  have hz : (fun a => (win0_16.index t₀) a * main_v11.ty.shape.size a) = fun _ => 0 := funext fun a => Nat.zero_mul _
  have h := Memref.read_access_unit_zero (Elt F) main_v11 hz (fun a => by fin_cases a <;> decide) (V m c main_v11)
  exact h

/-- Argument `s_o` as a matrix. -/
abbrev s_o (c : Dev nD) : Vec F S1x1 .f32 := shapeCast S1x1 (m ((c : Thread nD τ).loc main_arg17)) shapeCasts_S_S1x1

theorem block17 (c : Dev nD) : iblk m c 17 t₀ = s_o m c := by
  have hz : (fun a => (win0_17.index t₀) a * main_v12.ty.shape.size a) = fun _ => 0 := funext fun a => Nat.zero_mul _
  have h := Memref.read_access_unit_zero (Elt F) main_v12 hz (fun a => by fin_cases a <;> decide) (V m c main_v12)
  exact h

/-! ## What the body stores, from the arrays it reads -/

section Stores

variable (x : Vec F S256x3584 .bf16) (g_in : Vec F S1x3584 .f32) (g_q : Vec F S1x1024 .f32) (g_kv : Vec F S1x384 .f32) (w_q_a : Vec F S3584x1024 .fp8e4m3) (s_q_a : Vec F S1x1024 .f32) (w_q_b : Vec F S1024x3840 .fp8e4m3) (s_q_b : Vec F S1x3840 .f32) (w_kv_a : Vec F S3584x416 .fp8e4m3) (s_kv_a : Vec F S1x416 .f32) (w_kv_b : Vec F S384x6400 .fp8e4m3) (s_kv_b : Vec F S1x6400 .f32) (w_o : Vec F S3840x3584 .fp8e4m3) (s_w_o : Vec F S1x3584 .f32) (s_x : Vec F S1x1 .f32) (s_cq : Vec F S1x1 .f32) (s_ckv : Vec F S1x1 .f32) (s_o : Vec F S1x1 .f32)

/-- The codes of the normalised input. -/
abbrev xCodes := k0_pay8 s_x x g_in
/-- The codes of the query latent. -/
abbrev cqCodes := k0_pay12 (k0_pay2 s_x) (k0_pay3 s_cq) (xCodes x g_in s_x) w_q_a s_q_a g_q
/-- The codes of the key-value latent. -/
abbrev ckvCodes := k0_pay17 (k0_pay2 s_x) (k0_pay4 s_ckv) (xCodes x g_in s_x) w_kv_a s_kv_a g_kv
/-- The keys and values of all heads. -/
abbrev keysValues := k0_pay21 (k0_pay4 s_ckv) (ckvCodes x g_in g_kv w_kv_a s_kv_a s_x s_ckv) w_kv_b s_kv_b
/-- The values of all heads. -/
abbrev values := k0_pay30 (keysValues x g_in g_kv w_kv_a s_kv_a w_kv_b s_kv_b s_x s_ckv)
/-- The scaled scores of all heads. -/
abbrev scores := k0_pay31 (keysValues x g_in g_kv w_kv_a s_kv_a w_kv_b s_kv_b s_x s_ckv) (k0_pay22 (k0_pay15 (k0_pay2 s_x) (xCodes x g_in s_x) w_kv_a s_kv_a)) (k0_pay24 (F := F)) (k0_pay25 (F := F)) (k0_pay26 (k0_pay3 s_cq) (cqCodes x g_in g_q w_q_a s_q_a s_x s_cq) w_q_b s_q_b) (k0_pay27 (k0_pay3 s_cq) (cqCodes x g_in g_q w_q_a s_q_a s_x s_cq) w_q_b s_q_b) (k0_pay28 (F := F)) (k0_pay29 (F := F))

theorem pay36_eq : k0_pay36 x g_in g_q g_kv w_q_a s_q_a w_q_b s_q_b w_kv_a s_kv_a w_kv_b s_kv_b w_o s_w_o s_x s_cq s_ckv s_o = k0_pay2 s_x := by
  unfold k0_pay36
  simp only [View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay37_eq : k0_pay37 x g_in g_q g_kv w_q_a s_q_a w_q_b s_q_b w_kv_a s_kv_a w_kv_b s_kv_b w_o s_w_o s_x s_cq s_ckv s_o = k0_pay3 s_cq := by
  unfold k0_pay37
  simp only [pay36_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay38_eq : k0_pay38 x g_in g_q g_kv w_q_a s_q_a w_q_b s_q_b w_kv_a s_kv_a w_kv_b s_kv_b w_o s_w_o s_x s_cq s_ckv s_o = k0_pay4 s_ckv := by
  unfold k0_pay38
  simp only [pay36_eq, pay37_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay39_eq : k0_pay39 x g_in g_q g_kv w_q_a s_q_a w_q_b s_q_b w_kv_a s_kv_a w_kv_b s_kv_b w_o s_w_o s_x s_cq s_ckv s_o = k0_pay5 s_o := by
  unfold k0_pay39
  simp only [pay36_eq, pay37_eq, pay38_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay40_eq : k0_pay40 x g_in g_q g_kv w_q_a s_q_a w_q_b s_q_b w_kv_a s_kv_a w_kv_b s_kv_b w_o s_w_o s_x s_cq s_ckv s_o = xCodes x g_in s_x := by
  unfold k0_pay40
  simp only [pay36_eq, pay37_eq, pay38_eq, pay39_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay41_eq : k0_pay41 x g_in g_q g_kv w_q_a s_q_a w_q_b s_q_b w_kv_a s_kv_a w_kv_b s_kv_b w_o s_w_o s_x s_cq s_ckv s_o = cqCodes x g_in g_q w_q_a s_q_a s_x s_cq := by
  unfold k0_pay41
  simp only [pay36_eq, pay37_eq, pay38_eq, pay39_eq, pay40_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay42_eq : k0_pay42 x g_in g_q g_kv w_q_a s_q_a w_q_b s_q_b w_kv_a s_kv_a w_kv_b s_kv_b w_o s_w_o s_x s_cq s_ckv s_o = keysValues x g_in g_kv w_kv_a s_kv_a w_kv_b s_kv_b s_x s_ckv := by
  unfold k0_pay42
  simp only [pay36_eq, pay37_eq, pay38_eq, pay39_eq, pay40_eq, pay41_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay43_eq : k0_pay43 x g_in g_q g_kv w_q_a s_q_a w_q_b s_q_b w_kv_a s_kv_a w_kv_b s_kv_b w_o s_w_o s_x s_cq s_ckv s_o = values x g_in g_kv w_kv_a s_kv_a w_kv_b s_kv_b s_x s_ckv := by
  unfold k0_pay43
  simp only [pay36_eq, pay37_eq, pay38_eq, pay39_eq, pay40_eq, pay41_eq, pay42_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay44_eq : k0_pay44 x g_in g_q g_kv w_q_a s_q_a w_q_b s_q_b w_kv_a s_kv_a w_kv_b s_kv_b w_o s_w_o s_x s_cq s_ckv s_o = scores x g_in g_q g_kv w_q_a s_q_a w_q_b s_q_b w_kv_a s_kv_a w_kv_b s_kv_b s_x s_cq s_ckv := by
  unfold k0_pay44
  simp only [pay36_eq, pay37_eq, pay38_eq, pay39_eq, pay40_eq, pay41_eq, pay42_eq, pay43_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem pay45_eq : k0_pay45 x g_in g_q g_kv w_q_a s_q_a w_q_b s_q_b w_kv_a s_kv_a w_kv_b s_kv_b w_o s_w_o s_x s_cq s_ckv s_o = k0_pay32 (F := F) := by
  unfold k0_pay45
  simp only [pay36_eq, pay37_eq, pay38_eq, pay39_eq, pay40_eq, pay41_eq, pay42_eq, pay43_eq, pay44_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out18_eq : out0_18 x g_in g_q g_kv w_q_a s_q_a w_q_b s_q_b w_kv_a s_kv_a w_kv_b s_kv_b w_o s_w_o s_x s_cq s_ckv s_o = k0_pay1 (k0_pay5 s_o) (k0_pay6 x) (k0_pay34 (k0_pay5 s_o) (values x g_in g_kv w_kv_a s_kv_a w_kv_b s_kv_b s_x s_ckv) (scores x g_in g_q g_kv w_q_a s_q_a w_q_b s_q_b w_kv_a s_kv_a w_kv_b s_kv_b s_x s_cq s_ckv) (k0_pay32 (F := F))) w_o s_w_o := by
  unfold out0_18
  rw [View.canon_unit_zero (S := S256x3584) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out19_eq : out0_19 x g_in g_q g_kv w_q_a s_q_a w_q_b s_q_b w_kv_a s_kv_a w_kv_b s_kv_b w_o s_w_o s_x s_cq s_ckv s_o = xCodes x g_in s_x := by
  unfold out0_19
  rw [View.canon_unit_zero (S := S256x3584) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out20_eq : out0_20 x g_in g_q g_kv w_q_a s_q_a w_q_b s_q_b w_kv_a s_kv_a w_kv_b s_kv_b w_o s_w_o s_x s_cq s_ckv s_o = k0_pay10 (k0_pay9 x g_in) := by
  unfold out0_20
  rw [View.canon_unit_zero (S := S1x1) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out21_eq : out0_21 x g_in g_q g_kv w_q_a s_q_a w_q_b s_q_b w_kv_a s_kv_a w_kv_b s_kv_b w_o s_w_o s_x s_cq s_ckv s_o = cqCodes x g_in g_q w_q_a s_q_a s_x s_cq := by
  unfold out0_21
  rw [View.canon_unit_zero (S := S256x1024) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out22_eq : out0_22 x g_in g_q g_kv w_q_a s_q_a w_q_b s_q_b w_kv_a s_kv_a w_kv_b s_kv_b w_o s_w_o s_x s_cq s_ckv s_o = k0_pay14 (k0_pay13 (k0_pay2 s_x) (xCodes x g_in s_x) w_q_a s_q_a g_q) := by
  unfold out0_22
  rw [View.canon_unit_zero (S := S1x1) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out23_eq : out0_23 x g_in g_q g_kv w_q_a s_q_a w_q_b s_q_b w_kv_a s_kv_a w_kv_b s_kv_b w_o s_w_o s_x s_cq s_ckv s_o = ckvCodes x g_in g_kv w_kv_a s_kv_a s_x s_ckv := by
  unfold out0_23
  rw [View.canon_unit_zero (S := S256x384) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out24_eq : out0_24 x g_in g_q g_kv w_q_a s_q_a w_q_b s_q_b w_kv_a s_kv_a w_kv_b s_kv_b w_o s_w_o s_x s_cq s_ckv s_o = k0_pay19 (k0_pay18 (k0_pay2 s_x) (xCodes x g_in s_x) w_kv_a s_kv_a g_kv) := by
  unfold out0_24
  rw [View.canon_unit_zero (S := S1x1) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out25_eq : out0_25 x g_in g_q g_kv w_q_a s_q_a w_q_b s_q_b w_kv_a s_kv_a w_kv_b s_kv_b w_o s_w_o s_x s_cq s_ckv s_o = k0_pay34 (k0_pay5 s_o) (values x g_in g_kv w_kv_a s_kv_a w_kv_b s_kv_b s_x s_ckv) (scores x g_in g_q g_kv w_q_a s_q_a w_q_b s_q_b w_kv_a s_kv_a w_kv_b s_kv_b s_x s_cq s_ckv) (k0_pay32 (F := F)) := by
  unfold out0_25
  rw [View.canon_unit_zero (S := S256x3840) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

theorem out26_eq : out0_26 x g_in g_q g_kv w_q_a s_q_a w_q_b s_q_b w_kv_a s_kv_a w_kv_b s_kv_b w_o s_w_o s_x s_cq s_ckv s_o = k0_pay35 (values x g_in g_kv w_kv_a s_kv_a w_kv_b s_kv_b s_x s_ckv) (scores x g_in g_q g_kv w_q_a s_q_a w_q_b s_q_b w_kv_a s_kv_a w_kv_b s_kv_b s_x s_cq s_ckv) (k0_pay32 (F := F)) := by
  unfold out0_26
  rw [View.canon_unit_zero (S := S1x1) hz2]
  simp only [pay36_eq, pay37_eq, pay38_eq, pay39_eq, pay40_eq, pay41_eq, pay42_eq, pay43_eq, pay44_eq, pay45_eq, View.ld_unit_zero (S := S256x3584) hz2, View.ld_unit_zero (S := S1x3584) hz2, View.ld_unit_zero (S := S1x1024) hz2, View.ld_unit_zero (S := S1x384) hz2, View.ld_unit_zero (S := S3584x1024) hz2, View.ld_unit_zero (S := S1024x3840) hz2, View.ld_unit_zero (S := S1x3840) hz2, View.ld_unit_zero (S := S3584x416) hz2, View.ld_unit_zero (S := S1x416) hz2, View.ld_unit_zero (S := S384x6400) hz2, View.ld_unit_zero (S := S1x6400) hz2, View.ld_unit_zero (S := S3840x3584) hz2, View.ld_unit_zero (S := S1x1) hz2]

end Stores

/-! ## The result arrays after a run -/

/-- The array of the output after a run. -/
theorem array18 (c : Dev nD) : (dats m 0 c).arrAt 18 cfg0.N = k0_pay1 (k0_pay5 (s_o m c)) (k0_pay6 (x m c)) (k0_pay34 (k0_pay5 (s_o m c)) (values (x m c) (g_in m c) (g_kv m c) (w_kv_a m c) (s_kv_a m c) (w_kv_b m c) (s_kv_b m c) (s_x m c) (s_ckv m c)) (scores (x m c) (g_in m c) (g_q m c) (g_kv m c) (w_q_a m c) (s_q_a m c) (w_q_b m c) (s_q_b m c) (w_kv_a m c) (s_kv_a m c) (w_kv_b m c) (s_kv_b m c) (s_x m c) (s_cq m c) (s_ckv m c)) (k0_pay32 (F := F))) (w_o m c) (s_w_o m c) := by
  have hz : (fun a => (win0_18.index t₀) a * main_v13_0.ty.shape.size a) = fun _ => 0 := funext fun a => Nat.zero_mul _
  refine (Memref.read_access_unit_zero (Elt F) main_v13_0 hz (fun a => by fin_cases a <;> decide) _).symm.trans ?_
  refine (Value.blocks18 m c t₀ (by decide)).trans ?_
  rw [Value.flushed18]
  refine Eq.trans ?_ (out18_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the input's codes after a run. -/
theorem array19 (c : Dev nD) : (dats m 0 c).arrAt 19 cfg0.N = xCodes (x m c) (g_in m c) (s_x m c) := by
  have hz : (fun a => (win0_19.index t₀) a * main_v13_1.ty.shape.size a) = fun _ => 0 := funext fun a => Nat.zero_mul _
  refine (Memref.read_access_unit_zero (Elt F) main_v13_1 hz (fun a => by fin_cases a <;> decide) _).symm.trans ?_
  refine (Value.blocks19 m c t₀ (by decide)).trans ?_
  rw [Value.flushed19]
  refine Eq.trans ?_ (out19_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the largest normalised input after a run. -/
theorem array20 (c : Dev nD) : (dats m 0 c).arrAt 20 cfg0.N = k0_pay10 (k0_pay9 (x m c) (g_in m c)) := by
  have hz : (fun a => (win0_20.index t₀) a * main_v13_2.ty.shape.size a) = fun _ => 0 := funext fun a => Nat.zero_mul _
  refine (Memref.read_access_unit_zero (Elt F) main_v13_2 hz (fun a => by fin_cases a <;> decide) _).symm.trans ?_
  refine (Value.blocks20 m c t₀ (by decide)).trans ?_
  rw [Value.flushed20]
  refine Eq.trans ?_ (out20_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the query latent's codes after a run. -/
theorem array21 (c : Dev nD) : (dats m 0 c).arrAt 21 cfg0.N = cqCodes (x m c) (g_in m c) (g_q m c) (w_q_a m c) (s_q_a m c) (s_x m c) (s_cq m c) := by
  have hz : (fun a => (win0_21.index t₀) a * main_v13_3.ty.shape.size a) = fun _ => 0 := funext fun a => Nat.zero_mul _
  refine (Memref.read_access_unit_zero (Elt F) main_v13_3 hz (fun a => by fin_cases a <;> decide) _).symm.trans ?_
  refine (Value.blocks21 m c t₀ (by decide)).trans ?_
  rw [Value.flushed21]
  refine Eq.trans ?_ (out21_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the largest query latent after a run. -/
theorem array22 (c : Dev nD) : (dats m 0 c).arrAt 22 cfg0.N = k0_pay14 (k0_pay13 (k0_pay2 (s_x m c)) (xCodes (x m c) (g_in m c) (s_x m c)) (w_q_a m c) (s_q_a m c) (g_q m c)) := by
  have hz : (fun a => (win0_22.index t₀) a * main_v13_4.ty.shape.size a) = fun _ => 0 := funext fun a => Nat.zero_mul _
  refine (Memref.read_access_unit_zero (Elt F) main_v13_4 hz (fun a => by fin_cases a <;> decide) _).symm.trans ?_
  refine (Value.blocks22 m c t₀ (by decide)).trans ?_
  rw [Value.flushed22]
  refine Eq.trans ?_ (out22_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the key-value latent's codes after a run. -/
theorem array23 (c : Dev nD) : (dats m 0 c).arrAt 23 cfg0.N = ckvCodes (x m c) (g_in m c) (g_kv m c) (w_kv_a m c) (s_kv_a m c) (s_x m c) (s_ckv m c) := by
  have hz : (fun a => (win0_23.index t₀) a * main_v13_5.ty.shape.size a) = fun _ => 0 := funext fun a => Nat.zero_mul _
  refine (Memref.read_access_unit_zero (Elt F) main_v13_5 hz (fun a => by fin_cases a <;> decide) _).symm.trans ?_
  refine (Value.blocks23 m c t₀ (by decide)).trans ?_
  rw [Value.flushed23]
  refine Eq.trans ?_ (out23_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the largest key-value latent after a run. -/
theorem array24 (c : Dev nD) : (dats m 0 c).arrAt 24 cfg0.N = k0_pay19 (k0_pay18 (k0_pay2 (s_x m c)) (xCodes (x m c) (g_in m c) (s_x m c)) (w_kv_a m c) (s_kv_a m c) (g_kv m c)) := by
  have hz : (fun a => (win0_24.index t₀) a * main_v13_6.ty.shape.size a) = fun _ => 0 := funext fun a => Nat.zero_mul _
  refine (Memref.read_access_unit_zero (Elt F) main_v13_6 hz (fun a => by fin_cases a <;> decide) _).symm.trans ?_
  refine (Value.blocks24 m c t₀ (by decide)).trans ?_
  rw [Value.flushed24]
  refine Eq.trans ?_ (out24_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the attention output's codes after a run. -/
theorem array25 (c : Dev nD) : (dats m 0 c).arrAt 25 cfg0.N = k0_pay34 (k0_pay5 (s_o m c)) (values (x m c) (g_in m c) (g_kv m c) (w_kv_a m c) (s_kv_a m c) (w_kv_b m c) (s_kv_b m c) (s_x m c) (s_ckv m c)) (scores (x m c) (g_in m c) (g_q m c) (g_kv m c) (w_q_a m c) (s_q_a m c) (w_q_b m c) (s_q_b m c) (w_kv_a m c) (s_kv_a m c) (w_kv_b m c) (s_kv_b m c) (s_x m c) (s_cq m c) (s_ckv m c)) (k0_pay32 (F := F)) := by
  have hz : (fun a => (win0_25.index t₀) a * main_v13_7.ty.shape.size a) = fun _ => 0 := funext fun a => Nat.zero_mul _
  refine (Memref.read_access_unit_zero (Elt F) main_v13_7 hz (fun a => by fin_cases a <;> decide) _).symm.trans ?_
  refine (Value.blocks25 m c t₀ (by decide)).trans ?_
  rw [Value.flushed25]
  refine Eq.trans ?_ (out25_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

/-- The array of the largest attention output after a run. -/
theorem array26 (c : Dev nD) : (dats m 0 c).arrAt 26 cfg0.N = k0_pay35 (values (x m c) (g_in m c) (g_kv m c) (w_kv_a m c) (s_kv_a m c) (w_kv_b m c) (s_kv_b m c) (s_x m c) (s_ckv m c)) (scores (x m c) (g_in m c) (g_q m c) (g_kv m c) (w_q_a m c) (s_q_a m c) (w_q_b m c) (s_q_b m c) (w_kv_a m c) (s_kv_a m c) (w_kv_b m c) (s_kv_b m c) (s_x m c) (s_cq m c) (s_ckv m c)) (k0_pay32 (F := F)) := by
  have hz : (fun a => (win0_26.index t₀) a * main_v13_8.ty.shape.size a) = fun _ => 0 := funext fun a => Nat.zero_mul _
  refine (Memref.read_access_unit_zero (Elt F) main_v13_8 hz (fun a => by fin_cases a <;> decide) _).symm.trans ?_
  refine (Value.blocks26 m c t₀ (by decide)).trans ?_
  rw [Value.flushed26]
  refine Eq.trans ?_ (out26_eq (x m c) (g_in m c) (g_q m c) (g_kv m c) (w_q_a m c) (s_q_a m c) (w_q_b m c) (s_q_b m c) (w_kv_a m c) (s_kv_a m c) (w_kv_b m c) (s_kv_b m c) (w_o m c) (s_w_o m c) (s_x m c) (s_cq m c) (s_ckv m c) (s_o m c))
  rw [← block0, ← block1, ← block2, ← block3, ← block4, ← block5, ← block6, ← block7, ← block8, ← block9, ← block10, ← block11, ← block12, ← block13, ← block14, ← block15, ← block16, ← block17]
  rfl

end Cert.ReferenceIdeal.Arrays

end
-- ==== Proof.Latents.lean ====
module

public import proofs.«01_k».proof.Proof.KernelArrays
public import proofs.«01_k».proof.Proof.ReferenceArrays
public import Idealize.ShloMosaic.Lib.Pointwise

/-!
# The codes and largest values of the input and of the two latents agree

The kernel and the reference compute the normalised input, the query latent and the key-value latent by the same
steps. The kernel holds the scales as scalars, the reference as one-element matrices; the kernel computes the
key-value projection transposed and scales only the columns it keeps.
-/

@[expose] public section

noncomputable section

namespace Cert.Latents

open Idealize.ShloMosaic Idealize.ShloMosaic.TcCoe Idealize.SL.Sem

/-- Spreading a one-element matrix is filling with its element. -/
theorem broadcastTo_one {α : Type} {S : Shape} (h : Cert.ReferenceIdeal.S1x1.Broadcasts S) (v : Cert.ReferenceIdeal.S1x1.Idx → α) :
    broadcastTo S v h = broadcast S (v (ix2 0 0)) :=
  funext fun j => congrArg v (funext fun a => by fin_cases a <;> exact Subsingleton.elim (α := Fin 1) _ _)

/-! ## The normalised input -/

/-- The codes of the normalised input agree. -/
theorem xCodes_eq (s_x : Vec Ideal Cert.ReferenceIdeal.S1x1 .f32) (x : Vec Ideal Cert.ReferenceIdeal.S256x3584 .bf16) (g_in : Vec Ideal Cert.ReferenceIdeal.S1x3584 .f32) :
    Cert.ReferenceIdeal.Arrays.xCodes x g_in s_x = Cert.KernelIdeal.Arrays.xCodes s_x x g_in := by
  simp only [Cert.ReferenceIdeal.Gen.k0_pay8, Cert.ReferenceIdeal.Gen.k0_pay2, broadcastTo_one, shapeCast_id]
  rfl

/-- The largest absolute value of the normalised input agrees. -/
theorem xMax_eq (x : Vec Ideal Cert.ReferenceIdeal.S256x3584 .bf16) (g_in : Vec Ideal Cert.ReferenceIdeal.S1x3584 .f32) :
    Cert.ReferenceIdeal.Gen.k0_pay10 (Cert.ReferenceIdeal.Gen.k0_pay9 x g_in) = Cert.KernelIdeal.Gen.k0_pay3 x g_in := by
  sl_kernel_rfl

/-! ## The query latent -/

/-- The normalised query latent before its codes are taken. -/
theorem cq_eq (s_x : Vec Ideal Cert.ReferenceIdeal.S1x1 .f32) (xc : Vec Ideal Cert.ReferenceIdeal.S256x3584 .fp8e4m3)
    (w : Vec Ideal Cert.ReferenceIdeal.S3584x1024 .fp8e4m3) (s g : Vec Ideal Cert.ReferenceIdeal.S1x1024 .f32) :
    Cert.ReferenceIdeal.Gen.k0_pay11 (Cert.ReferenceIdeal.Gen.k0_pay2 s_x) xc w s g
      = Cert.KernelIdeal.Gen.k0_pay5 (s_x (ix2 0 0)) xc w s g := by
  simp only [Cert.ReferenceIdeal.Gen.k0_pay11, Cert.KernelIdeal.Gen.k0_pay5, Cert.ReferenceIdeal.Gen.k0_pay2, broadcastTo_one, shapeCast_id]
  rfl

/-- The codes of the query latent agree, from the same input codes. -/
theorem cqCodes_eq (s_x s_cq : Vec Ideal Cert.ReferenceIdeal.S1x1 .f32) (xc : Vec Ideal Cert.ReferenceIdeal.S256x3584 .fp8e4m3)
    (w : Vec Ideal Cert.ReferenceIdeal.S3584x1024 .fp8e4m3) (s g : Vec Ideal Cert.ReferenceIdeal.S1x1024 .f32) :
    Cert.ReferenceIdeal.Gen.k0_pay12 (Cert.ReferenceIdeal.Gen.k0_pay2 s_x) (Cert.ReferenceIdeal.Gen.k0_pay3 s_cq) xc w s g
      = Cert.KernelIdeal.Gen.k0_pay7 (s_x (ix2 0 0)) (s_cq (ix2 0 0)) xc w s g := by
  simp only [Cert.ReferenceIdeal.Gen.k0_pay12, cq_eq, Cert.ReferenceIdeal.Gen.k0_pay3, broadcastTo_one, shapeCast_id]
  rfl

/-- The largest absolute value of the query latent agrees. -/
theorem cqMax_eq (s_x : Vec Ideal Cert.ReferenceIdeal.S1x1 .f32) (xc : Vec Ideal Cert.ReferenceIdeal.S256x3584 .fp8e4m3)
    (w : Vec Ideal Cert.ReferenceIdeal.S3584x1024 .fp8e4m3) (s g : Vec Ideal Cert.ReferenceIdeal.S1x1024 .f32) :
    Cert.ReferenceIdeal.Gen.k0_pay14 (Cert.ReferenceIdeal.Gen.k0_pay13 (Cert.ReferenceIdeal.Gen.k0_pay2 s_x) xc w s g)
      = Cert.KernelIdeal.Gen.k0_pay6 (s_x (ix2 0 0)) xc w s g := by
  simp only [Cert.ReferenceIdeal.Gen.k0_pay14, Cert.ReferenceIdeal.Gen.k0_pay13, cq_eq]
  rfl

/-! ## The key-value latent -/

open Cert.KernelIdeal.Arrays (s_kv_a₀)

/-- The reference's projection, cut to its first 384 columns, is the kernel's transposed product cut and turned
    back, scaled by the first 384 scales. -/
theorem kv_cut (s_x : Vec Ideal Cert.ReferenceIdeal.S1x1 .f32) (xc : Vec Ideal Cert.ReferenceIdeal.S256x3584 .fp8e4m3)
    (w : Vec Ideal Cert.ReferenceIdeal.S3584x416 .fp8e4m3) (s : Vec Ideal Cert.ReferenceIdeal.S1x416 .f32) :
    extractStridedSlice Cert.ReferenceIdeal.S256x384 ![0, 0] (Cert.ReferenceIdeal.Gen.k0_pay15 (Cert.ReferenceIdeal.Gen.k0_pay2 s_x) xc w s)
        Cert.ReferenceIdeal.Gen.slices_S256x416_o0_0_S256x384
      = mulf (transpose Cert.KernelIdeal.S256x384 [1, 0] (extractStridedSlice Cert.KernelIdeal.S384x256 ![0, 0]
            (Cert.KernelIdeal.Gen.k0_pay8 (transpose Cert.KernelIdeal.S416x3584 [1, 0] w Cert.KernelIdeal.Gen.transposes_S3584x416_S416x3584_1_0) xc)
            Cert.KernelIdeal.Gen.slices_S416x256_o0_0_S384x256) Cert.KernelIdeal.Gen.transposes_S384x256_p1_0_S256x384)
          (broadcastTo Cert.KernelIdeal.S256x384 (mulf (broadcast Cert.KernelIdeal.S1x384 (s_x (ix2 0 0))) (s_kv_a₀ s))
            Cert.KernelIdeal.Gen.broadcasts_S1x384_S256x384) := by
  funext j
  simp only [Cert.ReferenceIdeal.Gen.k0_pay15, Cert.KernelIdeal.Gen.k0_pay8, Cert.ReferenceIdeal.Gen.k0_pay2]
  pointwise
  have hs : s_kv_a₀ s (ix2 0 (j 1)) = s (ix2 0 ⟨(j 1).val, by have := (j 1).isLt; simp at this; omega⟩) :=
    congrArg s (funext fun a => Fin.ext (by fin_cases a <;> simp [ix2]))
  rw [hs]
  exact congrArg (· * _) (Finset.sum_congr rfl fun k _ => mul_comm _ _)

/-- The normalised key-value latent before its codes are taken. -/
theorem ckv_eq (s_x : Vec Ideal Cert.ReferenceIdeal.S1x1 .f32) (xc : Vec Ideal Cert.ReferenceIdeal.S256x3584 .fp8e4m3)
    (w : Vec Ideal Cert.ReferenceIdeal.S3584x416 .fp8e4m3) (s : Vec Ideal Cert.ReferenceIdeal.S1x416 .f32) (g : Vec Ideal Cert.ReferenceIdeal.S1x384 .f32) :
    Cert.ReferenceIdeal.Gen.k0_pay16 (Cert.ReferenceIdeal.Gen.k0_pay2 s_x) xc w s g
      = Cert.KernelIdeal.Gen.k0_pay9 (s_x (ix2 0 0)) (transpose Cert.KernelIdeal.S416x3584 [1, 0] w Cert.KernelIdeal.Gen.transposes_S3584x416_S416x3584_1_0) xc (s_kv_a₀ s) g := by
  simp only [Cert.ReferenceIdeal.Gen.k0_pay16, kv_cut, Cert.KernelIdeal.Gen.k0_pay9, shapeCast_id]

/-- The codes of the key-value latent agree, from the same input codes. -/
theorem ckvCodes_eq (s_x s_ckv : Vec Ideal Cert.ReferenceIdeal.S1x1 .f32) (xc : Vec Ideal Cert.ReferenceIdeal.S256x3584 .fp8e4m3)
    (w : Vec Ideal Cert.ReferenceIdeal.S3584x416 .fp8e4m3) (s : Vec Ideal Cert.ReferenceIdeal.S1x416 .f32) (g : Vec Ideal Cert.ReferenceIdeal.S1x384 .f32) :
    Cert.ReferenceIdeal.Gen.k0_pay17 (Cert.ReferenceIdeal.Gen.k0_pay2 s_x) (Cert.ReferenceIdeal.Gen.k0_pay4 s_ckv) xc w s g
      = Cert.KernelIdeal.Gen.k0_pay12 (Cert.KernelIdeal.Gen.k0_pay11 (s_x (ix2 0 0)) (s_ckv (ix2 0 0))
          (transpose Cert.KernelIdeal.S416x3584 [1, 0] w Cert.KernelIdeal.Gen.transposes_S3584x416_S416x3584_1_0) xc (s_kv_a₀ s) g) (Scalar.ofBits .f32 0xC3E00000#32) (Scalar.ofBits .f32 0x43E00000#32) := by
  simp only [Cert.ReferenceIdeal.Gen.k0_pay17, ckv_eq, Cert.ReferenceIdeal.Gen.k0_pay4, broadcastTo_one, shapeCast_id]
  rfl

/-- The largest absolute value of the key-value latent agrees. -/
theorem ckvMax_eq (s_x : Vec Ideal Cert.ReferenceIdeal.S1x1 .f32) (xc : Vec Ideal Cert.ReferenceIdeal.S256x3584 .fp8e4m3)
    (w : Vec Ideal Cert.ReferenceIdeal.S3584x416 .fp8e4m3) (s : Vec Ideal Cert.ReferenceIdeal.S1x416 .f32) (g : Vec Ideal Cert.ReferenceIdeal.S1x384 .f32) :
    Cert.ReferenceIdeal.Gen.k0_pay19 (Cert.ReferenceIdeal.Gen.k0_pay18 (Cert.ReferenceIdeal.Gen.k0_pay2 s_x) xc w s g)
      = Cert.KernelIdeal.Gen.k0_pay10 (s_x (ix2 0 0)) (transpose Cert.KernelIdeal.S416x3584 [1, 0] w Cert.KernelIdeal.Gen.transposes_S3584x416_S416x3584_1_0) xc (s_kv_a₀ s) g := by
  simp only [Cert.ReferenceIdeal.Gen.k0_pay19, Cert.ReferenceIdeal.Gen.k0_pay18, ckv_eq]
  rfl

end Cert.Latents

end
-- ==== Proof.AttentionStores.lean ====
module

public import proofs.«01_k».proof.Proof.KernelStores

/-!
# The buffers of the attention, one list of stores each

The body fills its query, key and value buffers and the attention's codes by one store for each head, batch and tile.
Each list of stores is written here as one function of the head, the batch and the tile.
-/

@[expose] public section

noncomputable section

namespace Cert.KernelIdeal.Arrays

open Cert.KernelIdeal Cert.KernelIdeal.Gen Idealize.ShloMosaic Idealize.ShloMosaic.TcCoe Idealize.SL.Sem

variable {F : FTy → Type} [FloatOps F] [Named F]

theorem slice_head (i : Fin 8) (b : Fin 2) : S768x256.Slices ![96 * i.1, 128 * b.1] S96x128 := by revert i b; decide
theorem slice_lanes (j : Fin 10) : S256x1280.Slices ![0, 128 * j.1] S256x128 := by revert j; decide
theorem slice_batch (b : Fin 2) : S256x128.Slices ![128 * b.1, 0] S128x128 := by revert b; decide

/-- The queries of a block of eight heads, transposed: one row for each head and dimension. -/
def queryBlock (s : Elt F .f32) (cq : Vec F S256x1024 .fp8e4m3) (w : Vec F S1024x768 .fp8e4m3) (sw : Vec F S1x768 .f32) : FVec F S768x256 .f32 :=
  transpose S768x256 [1, 0] (mulf (matmul dot_S256x1024_S1024x768_S256x768_1_0_0_1_n_n none (shapeCast S256x1024 cq shapeCasts_S256x1024_S256x1024) w (constant S256x768 .f32 0x00000000#32)) (broadcastTo S256x768 (mulf (broadcast S1x768 s) (shapeCast S1x768 sw shapeCasts_S1x768_S1x768)) broadcasts_S1x768_S256x768)) transposes_S256x768_p1_0_S768x256

/-- The 96 rows of one head and batch. -/
def queryHead (T : FVec F S768x256 .f32) (i : Fin 8) (b : Fin 2) : FVec F S96x128 .f32 :=
  extractStridedSlice S96x128 ![96 * i.1, 128 * b.1] T (slice_head i b)

/-- The rows without rotation. -/
def queryPlain (B : FVec F S96x128 .f32) : FVec F S64x128 .bf16 :=
  truncf .bf16 (extractStridedSlice S64x128 ![0, 0] B slices_S96x128_o0_0_S64x128) bitsLt_bf16_f32

/-- Whether a row is even. -/
def evenRow : IVec S32x128 1 :=
  cmpi .eq (select (andi (xori (cmpi .slt k0_pay16 (broadcast S32x128 0#32)) (broadcastTo S32x128 (broadcast S32x128 0#1) broadcasts_S32x128_S32x128)) (cmpi .ne k0_pay16 k0_pay17)) (addi k0_pay16 (broadcast S32x128 2#32)) k0_pay16) (broadcast S32x128 0#32)

/-- The rotation by position of 32 rows, in pairs. -/
def rotated (v : FVec F S32x128 .f32) : FVec F S32x128 .f32 :=
  addf (mulf v k0_pay14) (mulf (select evenRow (subf (broadcast S32x128 (Scalar.ofBits .f32 0x00000000#32)) (dynamicRotate 0 31#32 none v rotates_S32x128_d0)) (dynamicRotate 0 1#32 none v rotates_S32x128_d0)) k0_pay15)

/-- The rows with rotation. -/
def queryRotated (B : FVec F S96x128 .f32) : FVec F S32x128 .bf16 :=
  truncf .bf16 (rotated (extractStridedSlice S32x128 ![64, 0] B slices_S96x128_o64_0_S32x128)) bitsLt_bf16_f32

theorem inb_q64 (s : Fin 40) (u : Fin 193) (v : Fin 2) : ∀ a, (![s.1, u.1, 128 * v.1] : Fin 3 → Nat) a + S1x64x128.size a ≤ S40x256x256.size a := by
  intro a; fin_cases a
  · show s.1 + 1 ≤ 40; omega
  · show u.1 + 64 ≤ 256; omega
  · show 128 * v.1 + 128 ≤ 256; omega

theorem inb_q32 (s : Fin 40) (u : Fin 225) (v : Fin 2) : ∀ a, (![s.1, u.1, 128 * v.1] : Fin 3 → Nat) a + S1x32x128.size a ≤ S40x256x256.size a := by
  intro a; fin_cases a
  · show s.1 + 1 ≤ 40; omega
  · show u.1 + 32 ≤ 256; omega
  · show 128 * v.1 + 128 ≤ 256; omega

/-- A store of 64 rows of queries. -/
def put64 (s : Fin 40) (u : Fin 193) (v : Fin 2) (X : FVec F S64x128 .bf16) : View.Piece (Elt F) S40x256x256 .bf16 :=
  ⟨Rect.unit ![s.1, u.1, 128 * v.1] S1x64x128.size (inb_q64 s u v), shapeCast S1x64x128 (shapeCast S64x128 X shapeCasts_S64x128_S64x128) shapeCasts_S64x128_S1x64x128⟩

/-- A store of 32 rows of queries. -/
def put32 (s : Fin 40) (u : Fin 225) (v : Fin 2) (X : FVec F S32x128 .bf16) : View.Piece (Elt F) S40x256x256 .bf16 :=
  ⟨Rect.unit ![s.1, u.1, 128 * v.1] S1x32x128.size (inb_q32 s u v), shapeCast S1x32x128 (shapeCast S32x128 X shapeCasts_S32x128_S32x128) shapeCasts_S32x128_S1x32x128⟩

/-- The slab of a pair of heads and a batch. -/
abbrev slab (g : Fin 10) (o : Fin 2) (b : Fin 2) : Fin 40 := ⟨4 * g.1 + 2 * o.1 + b.1, by omega⟩

/-- Head `m` of group `g` in its block of eight. -/
abbrev inBlock (g : Fin 10) (m : Fin 4) : Fin 8 := ⟨4 * (g.1 % 2) + m.1, by omega⟩

/-- The block of eight heads of a group of four. -/
abbrev blockOf (g : Fin 10) : Fin 5 := ⟨g.1 / 2, by omega⟩

/-- The stores of one head of a group, the last first. -/
def headPieces (T : Fin 5 → FVec F S768x256 .f32) (g : Fin 10) : Fin 4 → Fin 2 → List (View.Piece (Elt F) S40x256x256 .bf16)
  | 0, b => [put32 (slab g 0 b) 64 0 (queryRotated (queryHead (T (blockOf g)) (inBlock g 0) b)), put64 (slab g 0 b) 0 0 (queryPlain (queryHead (T (blockOf g)) (inBlock g 0) b))]
  | 1, b => [put32 (slab g 0 b) 224 1 (queryRotated (queryHead (T (blockOf g)) (inBlock g 1) b)), put64 (slab g 0 b) 160 1 (queryPlain (queryHead (T (blockOf g)) (inBlock g 1) b))]
  | 2, b => [put64 (slab g 1 b) 64 0 (queryPlain (queryHead (T (blockOf g)) (inBlock g 2) b)), put32 (slab g 1 b) 32 0 (queryRotated (queryHead (T (blockOf g)) (inBlock g 2) b))]
  | 3, b => [put32 (slab g 1 b) 224 1 (extractStridedSlice S32x128 ![0, 0] (queryPlain (queryHead (T (blockOf g)) (inBlock g 3) b)) slices_S64x128_o0_0_S32x128), put32 (slab g 1 b) 160 1 (queryRotated (queryHead (T (blockOf g)) (inBlock g 3) b)), put32 (slab g 1 b) 128 1 (extractStridedSlice S32x128 ![32, 0] (queryPlain (queryHead (T (blockOf g)) (inBlock g 3) b)) slices_S64x128_o32_0_S32x128)]

/-- The stores of the queries, the last first. -/
def queryPieces (T : Fin 5 → FVec F S768x256 .f32) : List (View.Piece (Elt F) S40x256x256 .bf16) :=
  ([9, 8, 7, 6, 5, 4, 3, 2, 1, 0] : List (Fin 10)).flatMap fun g => ([3, 2, 1, 0] : List (Fin 4)).flatMap fun m => ([1, 0] : List (Fin 2)).flatMap fun b => headPieces T g m b

/-- Keys and values of a block of eight heads. -/
def keyValueBlock (s : Elt F .f32) (ckv : Vec F S256x384 .fp8e4m3) (w : Vec F S384x1280 .fp8e4m3) (sw : Vec F S1x1280 .f32) : FVec F S256x1280 .f32 :=
  mulf (matmul dot_S256x384_S384x1280_S256x1280_1_0_0_1_n_n none (shapeCast S256x384 ckv shapeCasts_S256x384_S256x384) w (constant S256x1280 .f32 0x00000000#32)) (broadcastTo S256x1280 (mulf (broadcast S1x1280 s) (shapeCast S1x1280 sw shapeCasts_S1x1280_S1x1280)) broadcasts_S1x1280_S256x1280)

/-- Tile `j` of the five 128-lane tiles of a group. -/
def tileOf (B : Fin 5 → FVec F S256x1280 .f32) (g : Fin 10) (j : Fin 5) : FVec F S256x128 .f32 :=
  extractStridedSlice S256x128 ![0, 128 * (⟨5 * (g.1 % 2) + j.1, by omega⟩ : Fin 10).1] (B (blockOf g)) (slice_lanes _)

/-- The lane number. -/
def lane : IVec S256x128 32 := iota .tc S256x128 32 [1] iota_S256x128_d1_w32
/-- Lanes below `n`. -/
def below (n : BitVec 32) : IVec S256x128 1 := cmpi .slt lane (broadcast S256x128 n)
/-- Lanes from `n` on. -/
def from' (n : BitVec 32) : IVec S256x128 1 := cmpi .sge lane (broadcast S256x128 n)
/-- Zeros. -/
def zeros : FVec F S256x128 .f32 := broadcast S256x128 (Scalar.ofBits .f32 0x00000000#32)
/-- A tile rotated by half its lanes. -/
def half (t : FVec F S256x128 .f32) : FVec F S256x128 .f32 := dynamicRotate 1 64#32 none t rotates_S256x128_d1

/-- The key lanes of head `m` of a group, from the tiles and the shared rotated key. -/
def keyLanes (t : Fin 5 → FVec F S256x128 .f32) (kr : FVec F S256x128 .f32) : Fin 4 → FVec F S256x128 .f32
  | 0 => select (below 64#32) (t 0) kr
  | 1 => select (andi (from' 32#32) (below 96#32)) (t 1) kr
  | 2 => select (from' 64#32) (t 2) kr
  | 3 => select (below 32#32) (t 4) (select (from' 96#32) (t 3) kr)

theorem inb_key (g : Fin 10) (m : Fin 4) : ∀ a, (![0, 128 * (4 * g.1 + m.1)] : Fin 2 → Nat) a + S256x128.size a ≤ S256x5120.size a := by
  intro a; fin_cases a
  · show 0 + 256 ≤ 256; omega
  · show 128 * (4 * g.1 + m.1) + 128 ≤ 5120; omega

/-- The stores of the keys, the last first. -/
def keyPieces (B : Fin 5 → FVec F S256x1280 .f32) (kr : FVec F S256x128 .f32) : List (View.Piece (Elt F) S256x5120 .bf16) :=
  ([9, 8, 7, 6, 5, 4, 3, 2, 1, 0] : List (Fin 10)).flatMap fun g => ([3, 2, 1, 0] : List (Fin 4)).map fun m =>
    ⟨Rect.unit ![0, 128 * (4 * g.1 + m.1)] S256x128.size (inb_key g m), shapeCast S256x128 (truncf .bf16 (keyLanes (tileOf B g) kr m) bitsLt_bf16_f32) shapeCasts_S256x128_S256x128⟩

/-- The value lanes of a pair `o` of a group, by head of the pair and half of the lanes. -/
def valueLanes (t : Fin 5 → FVec F S256x128 .f32) : Fin 2 → Fin 2 → Fin 2 → Option (FVec F S256x128 .f32)
  | 0, 0, 0 => some (select (below 64#32) (half (t 0)) (select (below 96#32) (half (t 1)) zeros))
  | 0, 0, 1 => none
  | 0, 1, 0 => some (select (from' 96#32) (t 1) zeros)
  | 0, 1, 1 => some (select (below 64#32) (t 2) zeros)
  | 1, 0, 0 => some (select (from' 64#32) (half (t 3)) zeros)
  | 1, 0, 1 => some (select (below 32#32) (half (t 3)) zeros)
  | 1, 1, 0 => none
  | 1, 1, 1 => some (select (from' 32#32) (t 4) zeros)

/-- The rows of one batch of the lanes; zeros where there are none. -/
def valueTile (b : Fin 2) : Option (FVec F S256x128 .f32) → FVec F S128x128 .bf16
  | some X => extractStridedSlice S128x128 ![128 * b.1, 0] (truncf .bf16 X bitsLt_bf16_f32) (slice_batch b)
  | none => broadcast S128x128 (Scalar.ofBits .bf16 0x0000#16)

theorem inb_value (s : Fin 40) (u v : Fin 2) : ∀ a, (![s.1, 128 * u.1, 128 * v.1] : Fin 3 → Nat) a + S1x128x128.size a ≤ S40x256x256.size a := by
  intro a; fin_cases a
  · show s.1 + 1 ≤ 40; omega
  · show 128 * u.1 + 128 ≤ 256; omega
  · show 128 * v.1 + 128 ≤ 256; omega

/-- The stores of the values, the last first. -/
def valuePieces (B : Fin 5 → FVec F S256x1280 .f32) : List (View.Piece (Elt F) S40x256x256 .bf16) :=
  ([9, 8, 7, 6, 5, 4, 3, 2, 1, 0] : List (Fin 10)).flatMap fun g => ([1, 0] : List (Fin 2)).flatMap fun b => ([1, 0] : List (Fin 2)).flatMap fun o => ([1, 0] : List (Fin 2)).flatMap fun u => ([1, 0] : List (Fin 2)).map fun v =>
    ⟨Rect.unit ![(slab g o b).1, 128 * u.1, 128 * v.1] S1x128x128.size (inb_value (slab g o b) u v), shapeCast S1x128x128 (shapeCast S128x128 (valueTile b (valueLanes (tileOf B g) o u v)) shapeCasts_S128x128_S128x128) shapeCasts_S128x128_S1x128x128⟩

/-- The normalised weights of a pair of heads: one row for each query, the two heads side by side. -/
def weights (k : Vec F S128x256 .bf16) (q : Vec F S1x256x256 .bf16) : FVec F S128x256 .bf16 :=
  k0_pay802 (iota .tc S128x256 32 [0] iota_S128x256_d0_w32) 128#32 (remsi (iota .tc S128x256 32 [1] iota_S128x256_d1_w32) (broadcast S128x256 128#32)) (broadcast S128x256 0#32) k q

/-- The outputs of a pair of heads over the two tiles they reach. -/
def pairOut (k : Vec F S128x256 .bf16) (q v : Vec F S1x256x256 .bf16) : FVec F S128x256 .f32 :=
  k0_pay804 (weights k q) (k0_pay803 v) (constant S128x256 .f32 0x00000000#32)

/-- Tile `j` of the three output tiles of a group. -/
def outTile (K : Fin 2 → Vec F S128x256 .bf16) (Q V : Fin 2 → Vec F S1x256x256 .bf16) : Fin 3 → FVec F S128x128 .f32
  | 0 => extractStridedSlice S128x128 ![0, 0] (pairOut (K 0) (Q 0) (V 0)) slices_S128x256_o0_0_S128x128
  | 1 => addf (extractStridedSlice S128x128 ![0, 128] (pairOut (K 0) (Q 0) (V 0)) slices_S128x256_o0_128_S128x128) (extractStridedSlice S128x128 ![0, 0] (pairOut (K 1) (Q 1) (V 1)) slices_S128x256_o0_0_S128x128)
  | 2 => extractStridedSlice S128x128 ![0, 128] (pairOut (K 1) (Q 1) (V 1)) slices_S128x256_o0_128_S128x128

/-- The codes of one tile. -/
def tileCodes (s : Elt F .f32) (o : FVec F S128x128 .f32) : FVec F S128x128 .fp8e4m3 :=
  truncf .fp8e4m3 (minimumf (broadcast S128x128 (Scalar.ofBits .f32 0x43E00000#32)) (maximumf (broadcast S128x128 (Scalar.ofBits .f32 0xC3E00000#32)) (mulf o (broadcast S128x128 (k0_pay800 s))))) bitsLt_fp8e4m3_f32

theorem inb_out (b : Fin 2) (g : Fin 10) (j : Fin 3) : ∀ a, (![128 * b.1, 128 * (3 * g.1 + j.1)] : Fin 2 → Nat) a + S128x128.size a ≤ S256x3840.size a := by
  intro a; fin_cases a
  · show 128 * b.1 + 128 ≤ 256; omega
  · show 128 * (3 * g.1 + j.1) + 128 ≤ 3840; omega

theorem inb_keys (b : Fin 2) (g : Fin 10) (o : Fin 2) : ∀ a, (![128 * b.1, 256 * (2 * g.1 + o.1)] : Fin 2 → Nat) a + S128x256.size a ≤ S256x5120.size a := by
  intro a; fin_cases a
  · show 128 * b.1 + 128 ≤ 256; omega
  · show 256 * (2 * g.1 + o.1) + 256 ≤ 5120; omega

theorem inb_slab (s : Fin 40) : ∀ a, (![s.1, 0, 0] : Fin 3 → Nat) a + S1x256x256.size a ≤ S40x256x256.size a := by
  intro a; fin_cases a
  · show s.1 + 1 ≤ 40; omega
  · show 0 + 256 ≤ 256; omega
  · show 0 + 256 ≤ 256; omega

/-- The stores of the attention's codes, the last first. -/
def codePieces (s : Elt F .f32) (O : Fin 2 → Fin 10 → Fin 3 → FVec F S128x128 .f32) : List (View.Piece (Elt F) S256x3840 .fp8e4m3) :=
  ([1, 0] : List (Fin 2)).flatMap fun b => ([9, 8, 7, 6, 5, 4, 3, 2, 1, 0] : List (Fin 10)).flatMap fun g => ([2, 1, 0] : List (Fin 3)).map fun j =>
    ⟨Rect.unit ![128 * b.1, 128 * (3 * g.1 + j.1)] S128x128.size (inb_out b g j), tileCodes s (O b g j)⟩

/-- The running maximum of the tiles' absolute values. -/
def tileMax (O : Fin 2 → Fin 10 → Fin 3 → FVec F S128x128 .f32) : FVec F S128x128 .f32 :=
  ([1, 0] : List (Fin 2)).foldr (fun b m => ([9, 8, 7, 6, 5, 4, 3, 2, 1, 0] : List (Fin 10)).foldr (fun g m => ([2, 1, 0] : List (Fin 3)).foldr (fun j m => maximumf m (absf (O b g j))) m) m) (broadcast S128x128 (Scalar.ofBits .f32 0x00000000#32))

theorem inb_wq (i : Fin 5) : ∀ a, (![0, 768 * i.1] : Fin 2 → Nat) a + S1024x768.size a ≤ S1024x3840.size a := by
  intro a; fin_cases a
  · show 0 + 1024 ≤ 1024; omega
  · show 768 * i.1 + 768 ≤ 3840; omega

theorem inb_sq (i : Fin 5) : ∀ a, (![0, 768 * i.1] : Fin 2 → Nat) a + S1x768.size a ≤ S1x3840.size a := by
  intro a; fin_cases a
  · show 0 + 1 ≤ 1; omega
  · show 768 * i.1 + 768 ≤ 3840; omega

theorem inb_wkv (i : Fin 5) : ∀ a, (![0, 1280 * i.1] : Fin 2 → Nat) a + S384x1280.size a ≤ S384x6400.size a := by
  intro a; fin_cases a
  · show 0 + 384 ≤ 384; omega
  · show 1280 * i.1 + 1280 ≤ 6400; omega

theorem inb_skv (i : Fin 5) : ∀ a, (![0, 1280 * i.1] : Fin 2 → Nat) a + S1x1280.size a ≤ S1x6400.size a := by
  intro a; fin_cases a
  · show 0 + 1 ≤ 1; omega
  · show 1280 * i.1 + 1280 ≤ 6400; omega

section Pieces

variable (c : Dev nD) (arg0 : Memref sig .tc .smem S1x1 .f32) (harg0 : arg0.IsWhole) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S256x3584 .bf16) (harg4 : arg4.IsWhole) (arg5 : Memref sig .tc .vmem S1x3584 .f32) (harg5 : arg5.IsWhole) (arg6 : Memref sig .tc .vmem S1x1024 .f32) (harg6 : arg6.IsWhole) (arg7 : Memref sig .tc .vmem S1x384 .f32) (harg7 : arg7.IsWhole) (arg8 : Memref sig .tc .vmem S3584x1024 .fp8e4m3) (harg8 : arg8.IsWhole) (arg9 : Memref sig .tc .vmem S1x1024 .f32) (harg9 : arg9.IsWhole) (arg10 : Memref sig .tc .vmem S1024x3840 .fp8e4m3) (harg10 : arg10.IsWhole) (arg11 : Memref sig .tc .vmem S1x3840 .f32) (harg11 : arg11.IsWhole) (arg12 : Memref sig .tc .vmem S416x3584 .fp8e4m3) (harg12 : arg12.IsWhole) (arg13 : Memref sig .tc .vmem S1x416 .f32) (harg13 : arg13.IsWhole) (arg14 : Memref sig .tc .vmem S384x6400 .fp8e4m3) (harg14 : arg14.IsWhole) (arg15 : Memref sig .tc .vmem S1x6400 .f32) (harg15 : arg15.IsWhole) (arg16 : Memref sig .tc .vmem S3840x3584 .fp8e4m3) (harg16 : arg16.IsWhole) (arg17 : Memref sig .tc .vmem S1x3584 .f32) (harg17 : arg17.IsWhole) (arg18 : Memref sig .tc .vmem S256x3584 .bf16) (harg18 : arg18.IsWhole) (arg19 : Memref sig .tc .vmem S256x3584 .fp8e4m3) (harg19 : arg19.IsWhole) (arg20 : Memref sig .tc .vmem S1x1 .f32) (harg20 : arg20.IsWhole) (arg21 : Memref sig .tc .vmem S256x1024 .fp8e4m3) (harg21 : arg21.IsWhole) (arg22 : Memref sig .tc .vmem S1x1 .f32) (harg22 : arg22.IsWhole) (arg23 : Memref sig .tc .vmem S256x384 .fp8e4m3) (harg23 : arg23.IsWhole) (arg24 : Memref sig .tc .vmem S1x1 .f32) (harg24 : arg24.IsWhole) (arg25 : Memref sig .tc .vmem S256x3840 .fp8e4m3) (harg25 : arg25.IsWhole) (arg26 : Memref sig .tc .vmem S1x1 .f32) (harg26 : arg26.IsWhole) (arg27 : Memref sig .tc .vmem S40x256x256 .bf16) (harg27 : arg27.IsWhole) (arg28 : Memref sig .tc .vmem S256x5120 .bf16) (harg28 : arg28.IsWhole) (arg29 : Memref sig .tc .vmem S40x256x256 .bf16) (harg29 : arg29.IsWhole)
variable (s_x : Vec F S1x1 .f32) (s_cq : Vec F S1x1 .f32) (s_ckv : Vec F S1x1 .f32) (s_o : Vec F S1x1 .f32) (x : Vec F S256x3584 .bf16) (g_in : Vec F S1x3584 .f32) (g_q : Vec F S1x1024 .f32) (g_kv : Vec F S1x384 .f32) (w_q_a : Vec F S3584x1024 .fp8e4m3) (s_q_a : Vec F S1x1024 .f32) (w_q_b : Vec F S1024x3840 .fp8e4m3) (s_q_b : Vec F S1x3840 .f32) (w_kv_a : Vec F S416x3584 .fp8e4m3) (s_kv_a : Vec F S1x416 .f32) (w_kv_b : Vec F S384x6400 .fp8e4m3) (s_kv_b : Vec F S1x6400 .f32) (w_o : Vec F S3840x3584 .fp8e4m3) (s_w_o : Vec F S1x3584 .f32)

/-- The query blocks as the body computes them. -/
abbrev bodyQueries (i : Fin 5) : FVec F S768x256 .f32 :=
  queryBlock (kernelRun0_A.sl.r_1 c arg1 harg1 s_cq) (kernelRun0_A.sl.v216 c arg0 harg0 arg1 harg1 arg4 harg4 arg5 harg5 arg6 harg6 arg8 harg8 arg9 harg9 arg19 arg21 s_x s_cq x g_in g_q w_q_a s_q_a) (View.readAt (Elt F) arg10.view (Rect.unit (s := S1024x3840) ![0, 768 * i.1] S1024x768.size (inb_wq i)).toLoadRect (harg10.unread w_q_b)) (View.readAt (Elt F) arg11.view (Rect.unit (s := S1x3840) ![0, 768 * i.1] S1x768.size (inb_sq i)).toLoadRect (harg11.unread s_q_b))

/-- The key-value blocks as the body computes them. -/
abbrev bodyKeyValues (i : Fin 5) : FVec F S256x1280 .f32 :=
  keyValueBlock (kernelRun0_A.sl.r_2 c arg2 harg2 s_ckv) (kernelRun0_A.sl.v2244 c arg0 harg0 arg2 harg2 arg4 harg4 arg5 harg5 arg7 harg7 arg12 harg12 arg13 harg13 arg19 arg23 s_x s_ckv x g_in g_kv w_kv_a s_kv_a) (View.readAt (Elt F) arg14.view (Rect.unit (s := S384x6400) ![0, 1280 * i.1] S384x1280.size (inb_wkv i)).toLoadRect (harg14.unread w_kv_b)) (View.readAt (Elt F) arg15.view (Rect.unit (s := S1x6400) ![0, 1280 * i.1] S1x1280.size (inb_skv i)).toLoadRect (harg15.unread s_kv_b))

theorem keyPieces_eq : kernelRun0_A.sl.HS1_40 c arg0 harg0 arg2 harg2 arg4 harg4 arg5 harg5 arg7 harg7 arg12 harg12 arg13 harg13 arg14 harg14 arg15 harg15 arg19 arg23 s_x s_ckv x g_in g_kv w_kv_a s_kv_a w_kv_b s_kv_b
    = keyPieces (bodyKeyValues c arg0 harg0 arg2 harg2 arg4 harg4 arg5 harg5 arg7 harg7 arg12 harg12 arg13 harg13 arg14 harg14 arg15 harg15 arg19 arg23 s_x s_ckv x g_in g_kv w_kv_a s_kv_a w_kv_b s_kv_b) (kernelRun0_A.sl.v211 c arg0 harg0 arg4 harg4 arg5 harg5 arg12 harg12 arg13 harg13 arg19 s_x x g_in w_kv_a s_kv_a) := by
  sl_kernel_rfl

theorem valuePieces_eq : kernelRun0_A.sl.HS2_160 c arg0 harg0 arg2 harg2 arg4 harg4 arg5 harg5 arg7 harg7 arg12 harg12 arg13 harg13 arg14 harg14 arg15 harg15 arg19 arg23 s_x s_ckv x g_in g_kv w_kv_a s_kv_a w_kv_b s_kv_b
    = valuePieces (bodyKeyValues c arg0 harg0 arg2 harg2 arg4 harg4 arg5 harg5 arg7 harg7 arg12 harg12 arg13 harg13 arg14 harg14 arg15 harg15 arg19 arg23 s_x s_ckv x g_in g_kv w_kv_a s_kv_a w_kv_b s_kv_b) := by
  sl_kernel_rfl

theorem queryPieces_eq : kernelRun0_A.sl.HS0_181 c arg0 harg0 arg1 harg1 arg4 harg4 arg5 harg5 arg6 harg6 arg8 harg8 arg9 harg9 arg10 harg10 arg11 harg11 arg19 arg21 s_x s_cq x g_in g_q w_q_a s_q_a w_q_b s_q_b
    = queryPieces (bodyQueries c arg0 harg0 arg1 harg1 arg4 harg4 arg5 harg5 arg6 harg6 arg8 harg8 arg9 harg9 arg10 harg10 arg11 harg11 arg19 arg21 s_x s_cq x g_in g_q w_q_a s_q_a w_q_b s_q_b) ++ kernelRun0_A.sl.HS0_1 := by
  sl_kernel_rfl

/-- The output tiles as the body computes them. -/
abbrev bodyTiles (b : Fin 2) (g : Fin 10) (j : Fin 3) : FVec F S128x128 .f32 :=
  outTile (fun o => View.readCov arg28.view (kernelRun0_A.sl.HS1_40 c arg0 harg0 arg2 harg2 arg4 harg4 arg5 harg5 arg7 harg7 arg12 harg12 arg13 harg13 arg14 harg14 arg15 harg15 arg19 arg23 s_x s_ckv x g_in g_kv w_kv_a s_kv_a w_kv_b s_kv_b) (Rect.unit (s := S256x5120) ![128 * b.1, 256 * (2 * g.1 + o.1)] S128x256.size (inb_keys b g o)).toLoadRect)
    (fun o => View.readCov arg27.view (kernelRun0_A.sl.HS0_181 c arg0 harg0 arg1 harg1 arg4 harg4 arg5 harg5 arg6 harg6 arg8 harg8 arg9 harg9 arg10 harg10 arg11 harg11 arg19 arg21 s_x s_cq x g_in g_q w_q_a s_q_a w_q_b s_q_b) (Rect.unit (s := S40x256x256) ![(slab g o b).1, 0, 0] S1x256x256.size (inb_slab (slab g o b))).toLoadRect)
    (fun o => View.readCov arg29.view (kernelRun0_A.sl.HS2_160 c arg0 harg0 arg2 harg2 arg4 harg4 arg5 harg5 arg7 harg7 arg12 harg12 arg13 harg13 arg14 harg14 arg15 harg15 arg19 arg23 s_x s_ckv x g_in g_kv w_kv_a s_kv_a w_kv_b s_kv_b) (Rect.unit (s := S40x256x256) ![(slab g o b).1, 0, 0] S1x256x256.size (inb_slab (slab g o b))).toLoadRect) j

theorem codePieces_eq : kernelRun0_A.sl.H25_60 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv s_o x g_in g_q g_kv w_q_a s_q_a w_q_b s_q_b w_kv_a s_kv_a w_kv_b s_kv_b
    = codePieces (kernelRun0_A.sl.r_3 c arg3 harg3 s_o) (bodyTiles c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b w_kv_a s_kv_a w_kv_b s_kv_b) := by
  sl_kernel_rfl

end Pieces

end Cert.KernelIdeal.Arrays

end
-- ==== Proof.AttentionTail.lean ====
module

public import proofs.«01_k».proof.Proof.AttentionStores
public import proofs.«01_k».proof.Proof.KernelStores

/-!
# What the kernel's body stores in the results of the attention

The codes of the attention's output, its largest absolute value and the final sum, as functions of the output tiles.
-/

@[expose] public section

noncomputable section

namespace Cert.KernelIdeal.Arrays

open Cert.KernelIdeal Cert.KernelIdeal.Gen Idealize.ShloMosaic Idealize.ShloMosaic.TcCoe Idealize.SL.Sem

variable {F : FTy → Type} [FloatOps F] [Named F]

/-- The largest entry of a tile. -/
def largestOf (T : FVec F S128x128 .f32) : FVec F S1x1 .f32 :=
  broadcast S1x1 (extractAt ![0, 0, 0] (shapeCast S1x1x1 (multiReduction .maximumf [1, 2] S1 (shapeCast S1x128x128 T shapeCasts_S128x128_S1x128x128) 0xFF800000#32 reduces_S1x128x128_S1 (.inl rfl) rfl) shapeCasts_S1_S1x1x1) inpos_S1x1x1_p0_0_0)

theorem inb_x (n : Fin 7) : ∀ a, (![0, 512 * n.1] : Fin 2 → Nat) a + S256x512.size a ≤ S256x3584.size a := by
  intro a; fin_cases a
  · show 0 + 256 ≤ 256; omega
  · show 512 * n.1 + 512 ≤ 3584; omega

theorem inb_wo (n : Fin 7) : ∀ a, (![0, 512 * n.1] : Fin 2 → Nat) a + S3840x512.size a ≤ S3840x3584.size a := by
  intro a; fin_cases a
  · show 0 + 3840 ≤ 3840; omega
  · show 512 * n.1 + 512 ≤ 3584; omega

theorem inb_swo (n : Fin 7) : ∀ a, (![0, 512 * n.1] : Fin 2 → Nat) a + S1x512.size a ≤ S1x3584.size a := by
  intro a; fin_cases a
  · show 0 + 1 ≤ 1; omega
  · show 512 * n.1 + 512 ≤ 3584; omega

/-- The stores of the final sum, one for each 512 columns, the last one first. -/
def sumPieces (s : Elt F .f32) (O : FVec F S256x3840 .fp8e4m3) (w : Fin 7 → Vec F S3840x512 .fp8e4m3) (sw : Fin 7 → Vec F S1x512 .f32) (x : Fin 7 → Vec F S256x512 .bf16) : List (View.Piece (Elt F) S256x3584 .bf16) :=
  ([6, 5, 4, 3, 2, 1, 0] : List (Fin 7)).map fun n => ⟨Rect.unit ![0, 512 * n.1] S256x512.size (inb_x n), k0_pay1046 s O (w n) (sw n) (x n)⟩

/-- The rotary part of the keys of batch 0 before the rotation, a row for each coordinate. -/
def rotaryRows₀ (s : Elt F .f32) (kv : FVec F S416x256 .f32) (sk : Vec F S1x32 .f32) : FVec F S32x128 .f32 :=
  extractStridedSlice S32x128 ![0, 0] (transpose S128x128 [1, 0] (mulf (transpose S128x128 [1, 0] (concatenate S128x128 0 [⟨S32x128, extractStridedSlice S32x128 ![384, 0] kv slices_S416x256_o384_0_S32x128⟩, ⟨S32x128, extractStridedSlice S32x128 ![384, 0] kv slices_S416x256_o384_0_S32x128⟩, ⟨S32x128, extractStridedSlice S32x128 ![384, 0] kv slices_S416x256_o384_0_S32x128⟩, ⟨S32x128, extractStridedSlice S32x128 ![384, 0] kv slices_S416x256_o384_0_S32x128⟩] concatenates_S32x128_S32x128_S32x128_S32x128_S128x128_d0) transposes_S128x128_p1_0_S128x128) (broadcastTo S128x128 (k0_pay19 s sk) broadcasts_S1x128_S128x128)) transposes_S128x128_p1_0_S128x128) slices_S128x128_o0_0_S32x128

/-- The rotated keys of a batch, repeated over the 128 lanes. -/
def rotaryTile (v : FVec F S32x128 .f32) : FVec F S128x128 .f32 :=
  transpose S128x128 [1, 0] (concatenate S128x128 0 [⟨S32x128, rotated v⟩, ⟨S32x128, rotated v⟩, ⟨S32x128, rotated v⟩, ⟨S32x128, rotated v⟩] concatenates_S32x128_S32x128_S32x128_S32x128_S128x128_d0) transposes_S128x128_p1_0_S128x128

/-- The rotated keys of both batches. -/
def rotaryKeys (s : Elt F .f32) (kv : FVec F S416x256 .f32) (sk : Vec F S1x32 .f32) : FVec F S256x128 .f32 :=
  concatenate S256x128 0 [⟨S128x128, rotaryTile (rotaryRows₀ s kv sk)⟩, ⟨S128x128, rotaryTile (k0_pay21 s kv sk)⟩] concatenates_S128x128_S128x128_S256x128_d0

section Pieces

variable (c : Dev nD) (arg0 : Memref sig .tc .smem S1x1 .f32) (harg0 : arg0.IsWhole) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S256x3584 .bf16) (harg4 : arg4.IsWhole) (arg5 : Memref sig .tc .vmem S1x3584 .f32) (harg5 : arg5.IsWhole) (arg6 : Memref sig .tc .vmem S1x1024 .f32) (harg6 : arg6.IsWhole) (arg7 : Memref sig .tc .vmem S1x384 .f32) (harg7 : arg7.IsWhole) (arg8 : Memref sig .tc .vmem S3584x1024 .fp8e4m3) (harg8 : arg8.IsWhole) (arg9 : Memref sig .tc .vmem S1x1024 .f32) (harg9 : arg9.IsWhole) (arg10 : Memref sig .tc .vmem S1024x3840 .fp8e4m3) (harg10 : arg10.IsWhole) (arg11 : Memref sig .tc .vmem S1x3840 .f32) (harg11 : arg11.IsWhole) (arg12 : Memref sig .tc .vmem S416x3584 .fp8e4m3) (harg12 : arg12.IsWhole) (arg13 : Memref sig .tc .vmem S1x416 .f32) (harg13 : arg13.IsWhole) (arg14 : Memref sig .tc .vmem S384x6400 .fp8e4m3) (harg14 : arg14.IsWhole) (arg15 : Memref sig .tc .vmem S1x6400 .f32) (harg15 : arg15.IsWhole) (arg16 : Memref sig .tc .vmem S3840x3584 .fp8e4m3) (harg16 : arg16.IsWhole) (arg17 : Memref sig .tc .vmem S1x3584 .f32) (harg17 : arg17.IsWhole) (arg18 : Memref sig .tc .vmem S256x3584 .bf16) (harg18 : arg18.IsWhole) (arg19 : Memref sig .tc .vmem S256x3584 .fp8e4m3) (harg19 : arg19.IsWhole) (arg20 : Memref sig .tc .vmem S1x1 .f32) (harg20 : arg20.IsWhole) (arg21 : Memref sig .tc .vmem S256x1024 .fp8e4m3) (harg21 : arg21.IsWhole) (arg22 : Memref sig .tc .vmem S1x1 .f32) (harg22 : arg22.IsWhole) (arg23 : Memref sig .tc .vmem S256x384 .fp8e4m3) (harg23 : arg23.IsWhole) (arg24 : Memref sig .tc .vmem S1x1 .f32) (harg24 : arg24.IsWhole) (arg25 : Memref sig .tc .vmem S256x3840 .fp8e4m3) (harg25 : arg25.IsWhole) (arg26 : Memref sig .tc .vmem S1x1 .f32) (harg26 : arg26.IsWhole) (arg27 : Memref sig .tc .vmem S40x256x256 .bf16) (harg27 : arg27.IsWhole) (arg28 : Memref sig .tc .vmem S256x5120 .bf16) (harg28 : arg28.IsWhole) (arg29 : Memref sig .tc .vmem S40x256x256 .bf16) (harg29 : arg29.IsWhole)
variable (s_x : Vec F S1x1 .f32) (s_cq : Vec F S1x1 .f32) (s_ckv : Vec F S1x1 .f32) (s_o : Vec F S1x1 .f32) (x : Vec F S256x3584 .bf16) (g_in : Vec F S1x3584 .f32) (g_q : Vec F S1x1024 .f32) (g_kv : Vec F S1x384 .f32) (w_q_a : Vec F S3584x1024 .fp8e4m3) (s_q_a : Vec F S1x1024 .f32) (w_q_b : Vec F S1024x3840 .fp8e4m3) (s_q_b : Vec F S1x3840 .f32) (w_kv_a : Vec F S416x3584 .fp8e4m3) (s_kv_a : Vec F S1x416 .f32) (w_kv_b : Vec F S384x6400 .fp8e4m3) (s_kv_b : Vec F S1x6400 .f32) (w_o : Vec F S3840x3584 .fp8e4m3) (s_w_o : Vec F S1x3584 .f32)

/-- The scales of the rotary part of the key-value projection. -/
abbrev s_kv_a₁ : Vec F S1x32 .f32 := View.ld s_kv_a (Rect.unit (s := S1x416) ![0, 384] S1x32.size inb_S1x416_S1x32_0_384)

theorem v216_eq : kernelRun0_A.sl.v216 c arg0 harg0 arg1 harg1 arg4 harg4 arg5 harg5 arg6 harg6 arg8 harg8 arg9 harg9 arg19 arg21 s_x s_cq x g_in g_q w_q_a s_q_a = cqCodes s_x s_cq x g_in g_q w_q_a s_q_a := by
  unfold kernelRun0_A.sl.v216 kernelRun0_A.sl.H21_1
  rw [View.readCov_full]
  refine Eq.trans (b := k0_pay7 (kernelRun0_A.sl.r c arg0 harg0 s_x) (kernelRun0_A.sl.r_1 c arg1 harg1 s_cq) (kernelRun0_A.sl.v37 c arg0 harg0 arg4 harg4 arg5 harg5 arg19 s_x x g_in) (View.readAt (Elt F) arg8.view (Rect.unit ![0, 0] S3584x1024.size inb_S3584x1024_S3584x1024_0_0).toLoadRect (harg8.unread w_q_a)) (View.readAt (Elt F) arg9.view (Rect.unit ![0, 0] S1x1024.size inb_S1x1024_S1x1024_0_0).toLoadRect (harg9.unread s_q_a)) (View.readAt (Elt F) arg6.view (Rect.unit ![0, 0] S1x1024.size inb_S1x1024_S1x1024_0_0).toLoadRect (harg6.unread g_q))) (by sl_kernel_rfl) ?_
  rw [r_eq, r_1_eq, v37_eq, readAt_whole harg8 hz2, readAt_whole harg9 hz2, readAt_whole harg6 hz2]

theorem v2244_eq : kernelRun0_A.sl.v2244 c arg0 harg0 arg2 harg2 arg4 harg4 arg5 harg5 arg7 harg7 arg12 harg12 arg13 harg13 arg19 arg23 s_x s_ckv x g_in g_kv w_kv_a s_kv_a = ckvCodes s_x s_ckv x g_in g_kv w_kv_a s_kv_a := by
  unfold kernelRun0_A.sl.v2244 kernelRun0_A.sl.H23_1
  rw [View.readCov_full]
  refine Eq.trans (b := k0_pay12 (k0_pay11 (kernelRun0_A.sl.r c arg0 harg0 s_x) (kernelRun0_A.sl.r_2 c arg2 harg2 s_ckv) (View.readAt (Elt F) arg12.view (Rect.unit ![0, 0] S416x3584.size inb_S416x3584_S416x3584_0_0).toLoadRect (harg12.unread w_kv_a)) (kernelRun0_A.sl.v37 c arg0 harg0 arg4 harg4 arg5 harg5 arg19 s_x x g_in) (View.readAt (Elt F) arg13.view (Rect.unit (s := S1x416) ![0, 0] S1x384.size inb_S1x416_S1x384_0_0).toLoadRect (harg13.unread s_kv_a)) (View.readAt (Elt F) arg7.view (Rect.unit ![0, 0] S1x384.size inb_S1x384_S1x384_0_0).toLoadRect (harg7.unread g_kv))) (Scalar.ofBits .f32 0xC3E00000#32) (Scalar.ofBits .f32 0x43E00000#32)) (by sl_kernel_rfl) ?_
  rw [r_eq, r_2_eq, v37_eq, readAt_whole harg12 hz2, readAt_whole harg7 hz2, View.readAt_eq_ld, Memref.IsWhole.read_unread]

theorem v211_eq : kernelRun0_A.sl.v211 c arg0 harg0 arg4 harg4 arg5 harg5 arg12 harg12 arg13 harg13 arg19 s_x x g_in w_kv_a s_kv_a = rotaryKeys (scalar s_x) (k0_pay8 w_kv_a (xCodes s_x x g_in)) (s_kv_a₁ s_kv_a) := by
  refine Eq.trans (b := rotaryKeys (kernelRun0_A.sl.r c arg0 harg0 s_x) (k0_pay8 (View.readAt (Elt F) arg12.view (Rect.unit (s := S416x3584) ![0, 0] S416x3584.size inb_S416x3584_S416x3584_0_0).toLoadRect (harg12.unread w_kv_a)) (kernelRun0_A.sl.v37 c arg0 harg0 arg4 harg4 arg5 harg5 arg19 s_x x g_in)) (View.readAt (Elt F) arg13.view (Rect.unit (s := S1x416) ![0, 384] S1x32.size inb_S1x416_S1x32_0_384).toLoadRect (harg13.unread s_kv_a))) (by sl_kernel_rfl) ?_
  rw [r_eq, v37_eq, readAt_whole harg12 hz2, View.readAt_eq_ld, Memref.IsWhole.read_unread]

/-- The codes of the attention's output. -/
theorem out25_eq : out0_A_25 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o
    = View.canon (codePieces (scalar s_o) (bodyTiles c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b w_kv_a s_kv_a w_kv_b s_kv_b)) := by
  unfold out0_A_25 kernelRun0_A
  dsimp only
  rw [codePieces_eq, r_3_eq]
  exact View.read_writes_junk_eq_canon VO0_25 _

/-- The largest absolute value of the attention's output. -/
theorem out26_eq : out0_A_26 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o
    = largestOf (tileMax (bodyTiles c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b w_kv_a s_kv_a w_kv_b s_kv_b)) := by
  unfold out0_A_26 kernelRun0_A
  dsimp only
  rw [View.read_writes_full VO0_26]
  sl_kernel_rfl

/-- The final sum. -/
theorem out18_eq : out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b w_kv_a s_kv_a w_kv_b s_kv_b w_o s_w_o
    = View.canon (sumPieces (scalar s_o) (shapeCast S256x3840 (View.readCov arg25.view (kernelRun0_A.sl.H25_60 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv s_o x g_in g_q g_kv w_q_a s_q_a w_q_b s_q_b w_kv_a s_kv_a w_kv_b s_kv_b) (Rect.unit (s := S256x3840) ![0, 0] S256x3840.size inb_S256x3840_S256x3840_0_0).toLoadRect) shapeCasts_S256x3840_S256x3840)
      (fun n => View.ld w_o (Rect.unit (s := S3840x3584) ![0, 512 * n.1] S3840x512.size (inb_wo n)))
      (fun n => View.ld s_w_o (Rect.unit (s := S1x3584) ![0, 512 * n.1] S1x512.size (inb_swo n)))
      (fun n => View.ld x (Rect.unit (s := S256x3584) ![0, 512 * n.1] S256x512.size (inb_x n)))) := by
  unfold out0_A_18 kernelRun0_A
  dsimp only
  refine (View.read_writes_junk_eq_canon VO0_18 _).trans (congrArg View.canon ?_)
  refine Eq.trans (b := sumPieces (kernelRun0_A.sl.r_3 c arg3 harg3 s_o) (shapeCast S256x3840 (View.readCov arg25.view (kernelRun0_A.sl.H25_60 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv s_o x g_in g_q g_kv w_q_a s_q_a w_q_b s_q_b w_kv_a s_kv_a w_kv_b s_kv_b) (Rect.unit (s := S256x3840) ![0, 0] S256x3840.size inb_S256x3840_S256x3840_0_0).toLoadRect) shapeCasts_S256x3840_S256x3840)
      (fun n => View.readAt (Elt F) arg16.view (Rect.unit (s := S3840x3584) ![0, 512 * n.1] S3840x512.size (inb_wo n)).toLoadRect (harg16.unread w_o))
      (fun n => View.readAt (Elt F) arg17.view (Rect.unit (s := S1x3584) ![0, 512 * n.1] S1x512.size (inb_swo n)).toLoadRect (harg17.unread s_w_o))
      (fun n => View.readAt (Elt F) arg4.view (Rect.unit (s := S256x3584) ![0, 512 * n.1] S256x512.size (inb_x n)).toLoadRect (harg4.unread x))) (by sl_kernel_rfl) ?_
  rw [r_3_eq]
  simp only [View.readAt_eq_ld, Memref.IsWhole.read_unread]

end Pieces

end Cert.KernelIdeal.Arrays

end
-- ==== Proof.AttentionBuffers.lean ====
module

public import proofs.«01_k».proof.Proof.AttentionStores

/-!
# What the attention's key, query and value buffers hold

Each buffer at an index, as a function of the query and key-value projections.
-/

@[expose] public section

noncomputable section

namespace Cert.Attention

open Cert.KernelIdeal Cert.KernelIdeal.Gen Cert.KernelIdeal.Arrays Idealize.ShloMosaic Idealize.ShloMosaic.TcCoe Idealize.SL.Sem

/-- After a list of stores, an index holds `E` if every store agrees with `E` and either a store covers the index or
what was there before agrees with `E`. -/
theorem canon_append {Val : EltTy → Type} [∀ e, Nonempty (Val e)] {s : Shape} {e : EltTy} (E : s.Idx → Val e)
    (L M : List (View.Piece Val s e)) (hL : ∀ pc ∈ L, ∀ x, pc.2 x = E (pc.1.emb x)) (y : s.Idx)
    (hy : (∃ pc ∈ L, y ∈ pc.1.set) ∨ View.canon M y = E y) : View.canon (L ++ M) y = E y := by
  induction L with
  | nil =>
    rcases hy with ⟨pc, h, -⟩ | h
    · simp at h
    · exact h
  | cons p L ih =>
    have ih' := ih fun pc h => hL pc (List.mem_cons_of_mem _ h)
    rw [List.cons_append, View.canon_cons]
    by_cases hp : y ∈ p.1.set
    · obtain ⟨x, rfl⟩ : ∃ x, p.1.emb x = y := p.1.exists_idx_of_mem hp
      rw [Rect.overlay_emb]
      exact hL p List.mem_cons_self x
    · rw [Rect.overlay_of_not_mem _ _ _ hp]
      refine ih' ?_
      rcases hy with ⟨pc, h, hm⟩ | h
      · rcases List.mem_cons.1 h with rfl | h
        · exact absurd hm hp
        · exact .inl ⟨pc, h, hm⟩
      · exact .inr h

theorem select_below (w : BitVec 32) (n : ℕ) (hw : w = BitVec.ofNat 32 n) (hn : n < 129) {α : Type} (A B : S256x128.Idx → α) (r : Fin 256) (l : Fin 128) :
    select (below w) A B (ix2 r l) = if l.1 < n then A (ix2 r l) else B (ix2 r l) := by
  have h : below w (ix2 r l) = BitVec.ofBool (decide (l.1 < n)) := by
    have h : below w (ix2 r l) = BitVec.ofBool (BitVec.slt (BitVec.ofNat 32 l.1) w) := by
      unfold below lane
      pointwise
      rfl
    rw [h, hw, BitVec.slt_eq_decide]
    congr 2
    rw [BitVec.toInt_eq_toNat_of_lt, BitVec.toInt_eq_toNat_of_lt] <;> simp <;> omega
  show Scalar.select (below w (ix2 r l)) _ _ = _
  rw [h]
  by_cases h' : l.1 < n <;> simp only [h', decide_true, decide_false, if_true, if_false] <;> rfl

theorem select_from (w : BitVec 32) (n : ℕ) (hw : w = BitVec.ofNat 32 n) (hn : n < 129) {α : Type} (A B : S256x128.Idx → α) (r : Fin 256) (l : Fin 128) :
    select (from' w) A B (ix2 r l) = if n ≤ l.1 then A (ix2 r l) else B (ix2 r l) := by
  have h : from' w (ix2 r l) = BitVec.ofBool (decide (n ≤ l.1)) := by
    have h : from' w (ix2 r l) = BitVec.ofBool (BitVec.sle w (BitVec.ofNat 32 l.1)) := by
      unfold from' lane
      pointwise
      rfl
    rw [h, hw, BitVec.sle_eq_decide]
    congr 2
    rw [BitVec.toInt_eq_toNat_of_lt, BitVec.toInt_eq_toNat_of_lt] <;> simp <;> omega
  show Scalar.select (from' w (ix2 r l)) _ _ = _
  rw [h]
  by_cases h' : n ≤ l.1 <;> simp only [h', decide_true, decide_false, if_true, if_false] <;> rfl

theorem select_and {s : Shape} (p q : IVec s 1) {α : Type} (A B : s.Idx → α) : select (andi p q) A B = select p (select q A B) B := by
  funext j
  show Scalar.select (IntOp.andi (p j) (q j)) _ _ = Scalar.select (p j) (Scalar.select (q j) _ _) _
  have h : ∀ x y : BitVec 1, Scalar.select (IntOp.andi x y) (A j) (B j) = Scalar.select x (Scalar.select y (A j) (B j)) (B j) := by
    intro x y
    have hx : x = 0#1 ∨ x = 1#1 := by revert x; decide
    have hy : y = 0#1 ∨ y = 1#1 := by revert y; decide
    rcases hx with rfl | rfl <;> rcases hy with rfl | rfl <;> rfl
  exact h _ _

theorem tileOf_apply (B : Fin 5 → FVec Ideal S256x1280 .f32) (kv : ℕ → ℕ → EReal)
    (hB : ∀ i (r : Fin 256) (c : Fin 1280), B i (ix2 r c) = kv r.1 (1280 * i.1 + c.1)) (g : Fin 10) (j : Fin 5) (r : Fin 256) (l : Fin 128) :
    tileOf B g j (ix2 r l) = kv r.1 (640 * g.1 + 128 * j.1 + l.1) := by
  have h : tileOf B g j (ix2 r l) = B (blockOf g) (ix2 r ⟨128 * (5 * (g.1 % 2) + j.1) + l.1, by omega⟩) := by
    unfold tileOf
    pointwise
  rw [h, hB]
  congr 1
  show 1280 * (g.1 / 2) + (128 * (5 * (g.1 % 2) + j.1) + l.1) = _
  omega

theorem half_apply (t : FVec Ideal S256x128 .f32) (r : Fin 256) (l : Fin 128) :
    half t (ix2 r l) = t (ix2 r ⟨(l.1 + 64) % 128, by omega⟩) := by
  unfold half
  pointwise
  congr 3

/-- Whether lane `l` of head `m` of a group is a dimension without rotation. -/
def plainAt (m l : ℕ) : Bool :=
  match m with
  | 0 => decide (l < 64)
  | 1 => decide (32 ≤ l) && decide (l < 96)
  | 2 => decide (64 ≤ l)
  | _ => decide (l < 32) || decide (96 ≤ l)

/-- Which dimension it is. -/
def plainIx (m l : ℕ) : ℕ :=
  match m with
  | 0 => l
  | 1 => l - 32
  | 2 => l - 64
  | _ => if l < 32 then l + 32 else l - 96

/-- Whether lane `l` of head `m` of a group is a dimension with rotation (`l % 32`). -/
def rotAt (m l : ℕ) : Bool :=
  match m with
  | 0 => decide (64 ≤ l) && decide (l < 96)
  | 1 => decide (96 ≤ l)
  | _ => decide (32 ≤ l) && decide (l < 64)

/-- The rotation by position `t` of 32 numbers, in pairs. -/
def rot (C S : ℕ → ℕ → EReal) (v : ℕ → EReal) (t r : ℕ) : EReal :=
  v r * C r t + (if r % 2 = 0 then 0 - v (r + 1) else v (r - 1)) * S r t

/-- The key buffer at a row and a column. -/
def keyAt (C S : ℕ → ℕ → EReal) (kv kr : ℕ → ℕ → EReal) (r c : ℕ) : EReal :=
  if plainAt (c / 128 % 4) (c % 128) then kv r (160 * (c / 128) + plainIx (c / 128 % 4) (c % 128)) else rot C S (kr r) (r % 128) (c % 32)

theorem keyAt_eq (C S : ℕ → ℕ → EReal) (kv kr : ℕ → ℕ → EReal) (r g m l : ℕ) (hm : m < 4) (hl : l < 128) :
    keyAt C S kv kr r (128 * (4 * g + m) + l) = if plainAt m l then kv r (160 * (4 * g + m) + plainIx m l) else rot C S (kr r) (r % 128) (l % 32) := by
  unfold keyAt
  rw [show (128 * (4 * g + m) + l) / 128 = 4 * g + m by omega, show (128 * (4 * g + m) + l) % 128 = l by omega, show (4 * g + m) % 4 = m by omega, show (128 * (4 * g + m) + l) % 32 = l % 32 by omega]

theorem ix2_eta {a b : ℕ} (x : (⟨2, ![a, b]⟩ : Shape).Idx) : x = ix2 (x 0) (x 1) := by
  funext i; fin_cases i <;> rfl

theorem mem10 (g : Fin 10) : g ∈ ([9, 8, 7, 6, 5, 4, 3, 2, 1, 0] : List (Fin 10)) := by revert g; decide
theorem mem4 (g : Fin 4) : g ∈ ([3, 2, 1, 0] : List (Fin 4)) := by revert g; decide
theorem mem3 (g : Fin 3) : g ∈ ([2, 1, 0] : List (Fin 3)) := by revert g; decide
theorem mem2 (g : Fin 2) : g ∈ ([1, 0] : List (Fin 2)) := by revert g; decide

section Keys

variable (C S : ℕ → ℕ → EReal) (kv kr : ℕ → ℕ → EReal) (B : Fin 5 → FVec Ideal S256x1280 .f32)
  (hB : ∀ i (r : Fin 256) (c : Fin 1280), B i (ix2 r c) = kv r.1 (1280 * i.1 + c.1)) (k : FVec Ideal S256x128 .f32)
  (hk : ∀ (r : Fin 256) (l : Fin 128), k (ix2 r l) = rot C S (kr r.1) (r.1 % 128) (l.1 % 32))

include hB hk in
theorem keyLanes_apply (g : Fin 10) (m : Fin 4) (r : Fin 256) (l : Fin 128) :
    keyLanes (tileOf B g) k m (ix2 r l) = keyAt C S kv kr r.1 (128 * (4 * g.1 + m.1) + l.1) := by
  rw [keyAt_eq C S kv kr r.1 g.1 m.1 l.1 m.2 l.2]
  fin_cases m
  · show select (below 64#32) (tileOf B g 0) k (ix2 r l) = _
    rw [select_below 64#32 64 rfl (by norm_num), tileOf_apply B kv hB, hk]
    by_cases h : l.1 < 64 <;> simp [plainAt, plainIx, h]
    congr 1; omega
  · show select (andi (from' 32#32) (below 96#32)) (tileOf B g 1) k (ix2 r l) = _
    rw [select_and, select_from 32#32 32 rfl (by norm_num), select_below 96#32 96 rfl (by norm_num), tileOf_apply B kv hB, hk]
    by_cases h : 32 ≤ l.1 <;> by_cases h' : l.1 < 96 <;> simp [plainAt, plainIx, h, h']
    congr 1; omega
  · show select (from' 64#32) (tileOf B g 2) k (ix2 r l) = _
    rw [select_from 64#32 64 rfl (by norm_num), tileOf_apply B kv hB, hk]
    by_cases h : 64 ≤ l.1 <;> simp [plainAt, plainIx, h]
    congr 1; omega
  · show select (below 32#32) (tileOf B g 4) (select (from' 96#32) (tileOf B g 3) k) (ix2 r l) = _
    rw [select_below 32#32 32 rfl (by norm_num), select_from 96#32 96 rfl (by norm_num), tileOf_apply B kv hB, tileOf_apply B kv hB, hk]
    by_cases h : l.1 < 32 <;> by_cases h' : 96 ≤ l.1 <;> simp [plainAt, plainIx, h, h'] <;> congr 1 <;> omega

include hB hk in
/-- The key buffer, at an index. -/
theorem keys_apply (y : S256x5120.Idx) : View.canon (keyPieces B k) y = keyAt C S kv kr (y 0).1 (y 1).1 := by
  have h := canon_append (Val := Elt Ideal) (fun y : S256x5120.Idx => keyAt C S kv kr (y 0).1 (y 1).1) (keyPieces B k) [] ?_ y (.inl ?_)
  · rwa [List.append_nil] at h
  · intro pc hpc x
    simp only [keyPieces, List.mem_flatMap, List.mem_map] at hpc
    obtain ⟨g, -, m, -, rfl⟩ := hpc
    have hx : x = ix2 (x 0) (x 1) := ix2_eta (a := 256) (b := 128) x
    rw [hx]
    show shapeCast S256x128 (truncf .bf16 (keyLanes (tileOf B g) k m) bitsLt_bf16_f32) shapeCasts_S256x128_S256x128 (ix2 (x 0) (x 1)) = keyAt C S kv kr (0 + 1 * (x 0).1) (128 * (4 * g.1 + m.1) + 1 * (x 1).1)
    rw [shapeCast_id, Nat.zero_add, Nat.one_mul, Nat.one_mul]
    exact keyLanes_apply C S kv kr B hB k hk g m (x 0) (x 1)
  · have h0 : (y 0).1 < 256 := (y 0).2
    have h1 : (y 1).1 < 5120 := (y 1).2
    refine ⟨_, List.mem_flatMap.2 ⟨⟨(y 1).1 / 512, by omega⟩, mem10 _, List.mem_map.2 ⟨⟨(y 1).1 / 128 % 4, by omega⟩, mem4 _, rfl⟩⟩, ?_⟩
    refine (Rect.mem_set_unit (inb := inb_key _ _)).2 fun a => ?_
    fin_cases a
    · show 0 ≤ (y 0).1 ∧ (y 0).1 < 0 + 256
      omega
    · show 128 * (4 * ((y 1).1 / 512) + (y 1).1 / 128 % 4) ≤ (y 1).1 ∧ (y 1).1 < 128 * (4 * ((y 1).1 / 512) + (y 1).1 / 128 % 4) + 128
      omega

end Keys

/-- The value buffer at a slab, a row and a column. -/
def valueAt (kv : ℕ → ℕ → EReal) (s u v : ℕ) : EReal :=
  if 96 * (2 * (s / 2 % 2) + u / 128) ≤ 128 * (s / 2 % 2) + v ∧ 128 * (s / 2 % 2) + v < 96 * (2 * (s / 2 % 2) + u / 128) + 96
    then kv (128 * (s % 2) + u % 128) (160 * (2 * (s / 2) + u / 128) + 64 + (128 * (s / 2 % 2) + v - 96 * (2 * (s / 2 % 2) + u / 128))) else 0

theorem valueAt_eq (kv : ℕ → ℕ → EReal) (g o b w t v : ℕ) (ho : o < 2) (hb : b < 2) (ht : t < 128) :
    valueAt kv (4 * g + 2 * o + b) (128 * w + t) v = if 96 * (2 * o + w) ≤ 128 * o + v ∧ 128 * o + v < 96 * (2 * o + w) + 96
      then kv (128 * b + t) (160 * (4 * g + 2 * o + w) + 64 + (128 * o + v - 96 * (2 * o + w))) else 0 := by
  unfold valueAt
  rw [show (4 * g + 2 * o + b) / 2 = 2 * g + o by omega, show (2 * g + o) % 2 = o by omega, show (4 * g + 2 * o + b) % 2 = b by omega,
    show (128 * w + t) / 128 = w by omega, show (128 * w + t) % 128 = t by omega, show 2 * (2 * g + o) + w = 4 * g + 2 * o + w by omega]

section Values

variable (kv : ℕ → ℕ → EReal) (B : Fin 5 → FVec Ideal S256x1280 .f32)
  (hB : ∀ i (r : Fin 256) (c : Fin 1280), B i (ix2 r c) = kv r.1 (1280 * i.1 + c.1))

theorem zeros_apply (j : S256x128.Idx) : zeros (F := Ideal) j = 0 := by
  unfold zeros
  pointwise

theorem valueTile_some (b : Fin 2) (X : FVec Ideal S256x128 .f32) (t l : Fin 128) :
    valueTile b (some X) (ix2 t l) = X (ix2 ⟨128 * b.1 + t.1, by omega⟩ l) := by
  unfold valueTile
  pointwise

theorem valueTile_none (b : Fin 2) (t l : Fin 128) : valueTile (F := Ideal) b none (ix2 t l) = 0 := by
  unfold valueTile
  pointwise

include hB in
theorem valueLanes_apply (g : Fin 10) (b o w : Fin 2) (z : Fin 2) (t l : Fin 128) :
    valueTile b (valueLanes (tileOf B g) o w z) (ix2 t l) = valueAt kv (4 * g.1 + 2 * o.1 + b.1) (128 * w.1 + t.1) (128 * z.1 + l.1) := by
  rw [valueAt_eq kv g.1 o.1 b.1 w.1 t.1 _ o.2 b.2 t.2]
  have hl := l.2
  fin_cases o <;> fin_cases w <;> fin_cases z
  · show valueTile b (some (select (below 64#32) (half (tileOf B g 0)) (select (below 96#32) (half (tileOf B g 1)) zeros))) (ix2 t l) = _
    rw [valueTile_some, select_below 64#32 64 rfl (by norm_num), select_below 96#32 96 rfl (by norm_num), half_apply, half_apply, tileOf_apply B kv hB, tileOf_apply B kv hB, zeros_apply]
    dsimp only
    split_ifs <;> first | rfl | omega | exact congrArg₂ kv (by omega) (by omega)
  · show valueTile b none (ix2 t l) = _
    rw [valueTile_none]
    dsimp only
    rw [if_neg (by omega)]
  · show valueTile b (some (select (from' 96#32) (tileOf B g 1) zeros)) (ix2 t l) = _
    rw [valueTile_some, select_from 96#32 96 rfl (by norm_num), tileOf_apply B kv hB, zeros_apply]
    dsimp only
    split_ifs <;> first | rfl | omega | exact congrArg₂ kv (by omega) (by omega)
  · show valueTile b (some (select (below 64#32) (tileOf B g 2) zeros)) (ix2 t l) = _
    rw [valueTile_some, select_below 64#32 64 rfl (by norm_num), tileOf_apply B kv hB, zeros_apply]
    dsimp only
    split_ifs <;> first | rfl | omega | exact congrArg₂ kv (by omega) (by omega)
  · show valueTile b (some (select (from' 64#32) (half (tileOf B g 3)) zeros)) (ix2 t l) = _
    rw [valueTile_some, select_from 64#32 64 rfl (by norm_num), half_apply, tileOf_apply B kv hB, zeros_apply]
    dsimp only
    split_ifs <;> first | rfl | omega | exact congrArg₂ kv (by omega) (by omega)
  · show valueTile b (some (select (below 32#32) (half (tileOf B g 3)) zeros)) (ix2 t l) = _
    rw [valueTile_some, select_below 32#32 32 rfl (by norm_num), half_apply, tileOf_apply B kv hB, zeros_apply]
    dsimp only
    split_ifs <;> first | rfl | omega | exact congrArg₂ kv (by omega) (by omega)
  · show valueTile b none (ix2 t l) = _
    rw [valueTile_none]
    dsimp only
    rw [if_neg (by omega)]
  · show valueTile b (some (select (from' 32#32) (tileOf B g 4) zeros)) (ix2 t l) = _
    rw [valueTile_some, select_from 32#32 32 rfl (by norm_num), tileOf_apply B kv hB, zeros_apply]
    dsimp only
    split_ifs <;> first | rfl | omega | exact congrArg₂ kv (by omega) (by omega)

theorem ix3_eta {a b c : ℕ} (x : (⟨3, ![a, b, c]⟩ : Shape).Idx) : x = ix3 (x 0) (x 1) (x 2) := by
  funext i; fin_cases i <;> rfl

theorem cast128 {α : Type} (X : S128x128.Idx → α) (z : Fin 1) (u v : Fin 128) :
    shapeCast S1x128x128 (shapeCast S128x128 X shapeCasts_S128x128_S128x128) shapeCasts_S128x128_S1x128x128 (ix3 z u v) = X (ix2 u v) := by
  pointwise

include hB in
/-- The value buffer, at an index. -/
theorem values_apply (y : S40x256x256.Idx) : View.canon (valuePieces B) y = valueAt kv (y 0).1 (y 1).1 (y 2).1 := by
  have h := canon_append (Val := Elt Ideal) (fun y : S40x256x256.Idx => valueAt kv (y 0).1 (y 1).1 (y 2).1) (valuePieces B) [] ?_ y (.inl ?_)
  · rwa [List.append_nil] at h
  · intro pc hpc x
    simp only [valuePieces, List.mem_flatMap, List.mem_map] at hpc
    obtain ⟨g, -, b, -, o, -, u, -, v, -, rfl⟩ := hpc
    have hx : x = ix3 (x 0) (x 1) (x 2) := ix3_eta (a := 1) (b := 128) (c := 128) x
    have hz : (x 0).1 = 0 := by have := (x 0).2; change _ < 1 at this; omega
    rw [hx]
    show shapeCast S1x128x128 (shapeCast S128x128 (valueTile b (valueLanes (tileOf B g) o u v)) shapeCasts_S128x128_S128x128) shapeCasts_S128x128_S1x128x128 (ix3 (x 0) (x 1) (x 2))
      = valueAt kv (4 * g.1 + 2 * o.1 + b.1 + 1 * (x 0).1) (128 * u.1 + 1 * (x 1).1) (128 * v.1 + 1 * (x 2).1)
    rw [hz, Nat.mul_zero, Nat.add_zero, Nat.one_mul, Nat.one_mul]
    refine (cast128 _ (x 0) (x 1) (x 2)).trans ?_
    exact valueLanes_apply kv B hB g b o u v (x 1) (x 2)
  · have h0 : (y 0).1 < 40 := (y 0).2
    have h1 : (y 1).1 < 256 := (y 1).2
    have h2 : (y 2).1 < 256 := (y 2).2
    refine ⟨_, List.mem_flatMap.2 ⟨⟨(y 0).1 / 4, by omega⟩, mem10 _, List.mem_flatMap.2 ⟨⟨(y 0).1 % 2, by omega⟩, mem2 _, List.mem_flatMap.2 ⟨⟨(y 0).1 / 2 % 2, by omega⟩, mem2 _,
      List.mem_flatMap.2 ⟨⟨(y 1).1 / 128, by omega⟩, mem2 _, List.mem_map.2 ⟨⟨(y 2).1 / 128, by omega⟩, mem2 _, rfl⟩⟩⟩⟩⟩, ?_⟩
    refine (Rect.mem_set_unit (inb := inb_value _ _ _)).2 fun a => ?_
    fin_cases a
    · show 4 * ((y 0).1 / 4) + 2 * ((y 0).1 / 2 % 2) + (y 0).1 % 2 ≤ (y 0).1 ∧ (y 0).1 < 4 * ((y 0).1 / 4) + 2 * ((y 0).1 / 2 % 2) + (y 0).1 % 2 + 1
      omega
    · show 128 * ((y 1).1 / 128) ≤ (y 1).1 ∧ (y 1).1 < 128 * ((y 1).1 / 128) + 128
      omega
    · show 128 * ((y 2).1 / 128) ≤ (y 2).1 ∧ (y 2).1 < 128 * ((y 2).1 / 128) + 128
      omega

end Values

/-- The query buffer at a slab, a row and a column. -/
def queryAt (C S : ℕ → ℕ → EReal) (q : ℕ → ℕ → EReal) (s u v : ℕ) : EReal :=
  if u / 128 = v / 128 then
    if plainAt (2 * (s / 2 % 2) + v / 128) (u % 128) then q (128 * (s % 2) + v % 128) (96 * (2 * (s / 2) + v / 128) + plainIx (2 * (s / 2 % 2) + v / 128) (u % 128))
    else if rotAt (2 * (s / 2 % 2) + v / 128) (u % 128) then rot C S (fun r => q (128 * (s % 2) + v % 128) (96 * (2 * (s / 2) + v / 128) + 64 + r)) (v % 128) (u % 32)
    else 0
  else 0

theorem queryAt_eq (C S : ℕ → ℕ → EReal) (q : ℕ → ℕ → EReal) (g o b w l v t : ℕ) (ho : o < 2) (hb : b < 2) (hl : l < 128) (ht : t < 128) :
    queryAt C S q (4 * g + 2 * o + b) (128 * w + l) (128 * v + t) = if w = v then
      if plainAt (2 * o + v) l then q (128 * b + t) (96 * (4 * g + 2 * o + v) + plainIx (2 * o + v) l)
      else if rotAt (2 * o + v) l then rot C S (fun r => q (128 * b + t) (96 * (4 * g + 2 * o + v) + 64 + r)) t (l % 32) else 0
      else 0 := by
  unfold queryAt
  rw [show (4 * g + 2 * o + b) / 2 = 2 * g + o by omega, show (2 * g + o) % 2 = o by omega, show (4 * g + 2 * o + b) % 2 = b by omega,
    show (128 * w + l) / 128 = w by omega, show (128 * w + l) % 128 = l by omega, show (128 * v + t) / 128 = v by omega, show (128 * v + t) % 128 = t by omega,
    show (128 * w + l) % 32 = l % 32 by omega, show 2 * (2 * g + o) + v = 4 * g + 2 * o + v by omega]

theorem query_plain (C S : ℕ → ℕ → EReal) (q : ℕ → ℕ → EReal) (g o b v l t a : ℕ) (ho : o < 2) (hb : b < 2) (hl : l < 128) (ht : t < 128)
    (h : plainAt (2 * o + v) l = true) (h' : plainIx (2 * o + v) l = a) :
    queryAt C S q (4 * g + 2 * o + b) (128 * v + l) (128 * v + t) = q (128 * b + t) (96 * (4 * g + 2 * o + v) + a) := by
  rw [queryAt_eq C S q g o b v l v t ho hb hl ht, if_pos rfl, if_pos h, h']

theorem query_rot (C S : ℕ → ℕ → EReal) (q : ℕ → ℕ → EReal) (g o b v l t r : ℕ) (ho : o < 2) (hb : b < 2) (hl : l < 128) (ht : t < 128)
    (h : plainAt (2 * o + v) l = false) (h' : rotAt (2 * o + v) l = true) (hr : l % 32 = r) :
    queryAt C S q (4 * g + 2 * o + b) (128 * v + l) (128 * v + t) = rot C S (fun r => q (128 * b + t) (96 * (4 * g + 2 * o + v) + 64 + r)) t r := by
  rw [queryAt_eq C S q g o b v l v t ho hb hl ht, if_pos rfl, if_neg (by rw [h]; decide), if_pos h', hr]

theorem query_zero (C S : ℕ → ℕ → EReal) (q : ℕ → ℕ → EReal) (g o b w v l t : ℕ) (ho : o < 2) (hb : b < 2) (hl : l < 128) (ht : t < 128)
    (h : w = v → plainAt (2 * o + v) l = false ∧ rotAt (2 * o + v) l = false) :
    queryAt C S q (4 * g + 2 * o + b) (128 * w + l) (128 * v + t) = 0 := by
  rw [queryAt_eq C S q g o b w l v t ho hb hl ht]
  by_cases hw : w = v
  · rw [if_pos hw, if_neg (by rw [(h hw).1]; decide), if_neg (by rw [(h hw).2]; decide)]
  · rw [if_neg hw]

theorem evenRow_apply (r : Fin 32) (t : Fin 128) : evenRow (ix2 r t) = BitVec.ofBool (decide (r.1 % 2 = 0)) := by
  unfold evenRow k0_pay16 k0_pay17
  pointwise
  revert r
  decide

section Queries

variable (C S : ℕ → ℕ → EReal) (q : ℕ → ℕ → EReal) (T : Fin 5 → FVec Ideal S768x256 .f32)
  (hT : ∀ i (a : Fin 768) (r : Fin 256), T i (ix2 a r) = q r.1 (768 * i.1 + a.1))
  (hC : ∀ (r : Fin 32) (t : Fin 128), k0_pay14 (F := Ideal) (ix2 r t) = C r.1 t.1)
  (hS : ∀ (r : Fin 32) (t : Fin 128), k0_pay15 (F := Ideal) (ix2 r t) = S r.1 t.1)

include hC hS in
theorem rotated_apply (v : FVec Ideal S32x128 .f32) (n : ℕ → EReal) (t : Fin 128) (hv : ∀ r : Fin 32, v (ix2 r t) = n r.1) (r : Fin 32) :
    rotated v (ix2 r t) = rot C S n t.1 r.1 := by
  have h1 : ∀ r' : Fin 32, r'.1 = (r.1 + 1) % 32 → v (ix2 r' t) = n ((r.1 + 1) % 32) := fun r' h => by rw [hv, h]
  unfold rotated rot
  pointwise
  rw [hC, hS, evenRow_apply, hv, hv, hv]
  by_cases h : r.1 % 2 = 0
  · simp only [h, decide_true, if_true]
    show n r.1 * C r.1 t.1 + (0 - n ((r.1 + 32 - 31) % 32)) * S r.1 t.1 = _
    rw [show (r.1 + 32 - 31) % 32 = r.1 + 1 by omega]
  · simp only [h, decide_false, if_false]
    show n r.1 * C r.1 t.1 + (n ((r.1 + 32 - 1) % 32)) * S r.1 t.1 = _
    rw [show (r.1 + 32 - 1) % 32 = r.1 - 1 by omega]

include hT in
theorem queryHead_apply (g : Fin 10) (m : Fin 4) (b : Fin 2) (a : Fin 96) (t : Fin 128) :
    queryHead (T (blockOf g)) (inBlock g m) b (ix2 a t) = q (128 * b.1 + t.1) (96 * (4 * g.1 + m.1) + a.1) := by
  unfold queryHead
  pointwise
  rw [hT]
  refine congrArg₂ q ?_ ?_
  · rfl
  · show 768 * (g.1 / 2) + (96 * (4 * (g.1 % 2) + m.1) + a.1) = _
    omega

include hT in
theorem queryPlain_apply (g : Fin 10) (m : Fin 4) (b : Fin 2) (a : Fin 64) (t : Fin 128) :
    queryPlain (queryHead (T (blockOf g)) (inBlock g m) b) (ix2 a t) = q (128 * b.1 + t.1) (96 * (4 * g.1 + m.1) + a.1) := by
  unfold queryPlain
  pointwise
  rw [queryHead_apply q T hT]

include hT hC hS in
theorem queryRotated_apply (g : Fin 10) (m : Fin 4) (b : Fin 2) (r : Fin 32) (t : Fin 128) :
    queryRotated (queryHead (T (blockOf g)) (inBlock g m) b) (ix2 r t) = rot C S (fun r => q (128 * b.1 + t.1) (96 * (4 * g.1 + m.1) + 64 + r)) t.1 r.1 := by
  unfold queryRotated
  refine (rotated_apply C S hC hS _ (fun r => q (128 * b.1 + t.1) (96 * (4 * g.1 + m.1) + 64 + r)) t ?_ r)
  intro r
  pointwise
  rw [queryHead_apply q T hT]
  refine congrArg₂ q rfl ?_
  show _ + (64 + r.1) = _
  omega

theorem put64_apply (s : Fin 40) (u : Fin 193) (v : Fin 2) (X : FVec Ideal S64x128 .bf16) (z : Fin 1) (a : Fin 64) (t : Fin 128) :
    shapeCast S1x64x128 (shapeCast S64x128 X shapeCasts_S64x128_S64x128) shapeCasts_S64x128_S1x64x128 (ix3 z a t) = X (ix2 a t) := by
  pointwise

theorem put32_apply (s : Fin 40) (u : Fin 225) (v : Fin 2) (X : FVec Ideal S32x128 .bf16) (z : Fin 1) (a : Fin 32) (t : Fin 128) :
    shapeCast S1x32x128 (shapeCast S32x128 X shapeCasts_S32x128_S32x128) shapeCasts_S32x128_S1x32x128 (ix3 z a t) = X (ix2 a t) := by
  pointwise

theorem slice0 (X : FVec Ideal S64x128 .bf16) (a : Fin 32) (t : Fin 128) :
    extractStridedSlice S32x128 ![0, 0] X slices_S64x128_o0_0_S32x128 (ix2 a t) = X (ix2 ⟨a.1, by omega⟩ t) := by
  pointwise

theorem slice32 (X : FVec Ideal S64x128 .bf16) (a : Fin 32) (t : Fin 128) :
    extractStridedSlice S32x128 ![32, 0] X slices_S64x128_o32_0_S32x128 (ix2 a t) = X (ix2 ⟨32 + a.1, by omega⟩ t) := by
  pointwise

theorem put64_ok (E : ℕ → ℕ → ℕ → EReal) (s : Fin 40) (u : Fin 193) (v : Fin 2) (X : FVec Ideal S64x128 .bf16)
    (h : ∀ (a : Fin 64) (t : Fin 128), X (ix2 a t) = E s.1 (u.1 + a.1) (128 * v.1 + t.1)) (x : (put64 s u v X).1.shape.Idx) :
    (put64 s u v X).2 x = E ((put64 s u v X).1.emb x 0).1 ((put64 s u v X).1.emb x 1).1 ((put64 s u v X).1.emb x 2).1 := by
  have hx : x = ix3 (x 0) (x 1) (x 2) := ix3_eta (a := 1) (b := 64) (c := 128) x
  have hz : (x 0).1 = 0 := by have := (x 0).2; change _ < 1 at this; omega
  rw [hx]
  refine (put64_apply s u v X (x 0) (x 1) (x 2)).trans ((h (x 1) (x 2)).trans ?_)
  show _ = E (s.1 + 1 * (x 0).1) (u.1 + 1 * (x 1).1) (128 * v.1 + 1 * (x 2).1)
  rw [hz, Nat.mul_zero, Nat.add_zero, Nat.one_mul, Nat.one_mul]

theorem put32_ok (E : ℕ → ℕ → ℕ → EReal) (s : Fin 40) (u : Fin 225) (v : Fin 2) (X : FVec Ideal S32x128 .bf16)
    (h : ∀ (a : Fin 32) (t : Fin 128), X (ix2 a t) = E s.1 (u.1 + a.1) (128 * v.1 + t.1)) (x : (put32 s u v X).1.shape.Idx) :
    (put32 s u v X).2 x = E ((put32 s u v X).1.emb x 0).1 ((put32 s u v X).1.emb x 1).1 ((put32 s u v X).1.emb x 2).1 := by
  have hx : x = ix3 (x 0) (x 1) (x 2) := ix3_eta (a := 1) (b := 32) (c := 128) x
  have hz : (x 0).1 = 0 := by have := (x 0).2; change _ < 1 at this; omega
  rw [hx]
  refine (put32_apply s u v X (x 0) (x 1) (x 2)).trans ((h (x 1) (x 2)).trans ?_)
  show _ = E (s.1 + 1 * (x 0).1) (u.1 + 1 * (x 1).1) (128 * v.1 + 1 * (x 2).1)
  rw [hz, Nat.mul_zero, Nat.add_zero, Nat.one_mul, Nat.one_mul]

theorem mem_put64 (s : Fin 40) (u : Fin 193) (v : Fin 2) (X : FVec Ideal S64x128 .bf16) (y : S40x256x256.Idx)
    (h0 : (y 0).1 = s.1) (h1 : u.1 ≤ (y 1).1 ∧ (y 1).1 < u.1 + 64) (h2 : 128 * v.1 ≤ (y 2).1 ∧ (y 2).1 < 128 * v.1 + 128) : y ∈ (put64 s u v X).1.set := by
  refine (Rect.mem_set_unit (inb := inb_q64 s u v)).2 fun a => ?_
  fin_cases a
  · show s.1 ≤ (y 0).1 ∧ (y 0).1 < s.1 + 1
    omega
  · exact h1
  · exact h2

theorem mem_put32 (s : Fin 40) (u : Fin 225) (v : Fin 2) (X : FVec Ideal S32x128 .bf16) (y : S40x256x256.Idx)
    (h0 : (y 0).1 = s.1) (h1 : u.1 ≤ (y 1).1 ∧ (y 1).1 < u.1 + 32) (h2 : 128 * v.1 ≤ (y 2).1 ∧ (y 2).1 < 128 * v.1 + 128) : y ∈ (put32 s u v X).1.set := by
  refine (Rect.mem_set_unit (inb := inb_q32 s u v)).2 fun a => ?_
  fin_cases a
  · show s.1 ≤ (y 0).1 ∧ (y 0).1 < s.1 + 1
    omega
  · exact h1
  · exact h2

theorem mem_queryPieces (g : Fin 10) (m : Fin 4) (b : Fin 2) {pc : View.Piece (Elt Ideal) S40x256x256 .bf16} (h : pc ∈ headPieces T g m b) : pc ∈ queryPieces T :=
  List.mem_flatMap.2 ⟨g, mem10 g, List.mem_flatMap.2 ⟨m, mem4 m, List.mem_flatMap.2 ⟨b, mem2 b, h⟩⟩⟩

include hT hC hS in
theorem headPieces_ok (g : Fin 10) (m : Fin 4) (b : Fin 2) (pc : View.Piece (Elt Ideal) S40x256x256 .bf16) (h : pc ∈ headPieces T g m b) (x : pc.1.shape.Idx) :
    pc.2 x = queryAt C S q (pc.1.emb x 0).1 (pc.1.emb x 1).1 (pc.1.emb x 2).1 := by
  have hb := b.2
  fin_cases m
  · rcases List.mem_cons.1 h with rfl | h
    · refine put32_ok (queryAt C S q) _ _ _ _ (fun a t => (queryRotated_apply C S q T hT hC hS g 0 b a t).trans ?_) x
      exact ((congrArg₂ (queryAt C S q _) (show 64 + a.1 = 128 * 0 + (64 + a.1) by omega) rfl).trans (query_rot C S q g.1 0 b.1 0 (64 + a.1) t.1 a.1 (by omega) hb (by omega) t.2 (by simp [plainAt]) (by simp [rotAt]; omega) (by omega))).symm
    rcases List.mem_cons.1 h with rfl | h
    · refine put64_ok (queryAt C S q) _ _ _ _ (fun a t => (queryPlain_apply q T hT g 0 b a t).trans ?_) x
      exact ((congrArg₂ (queryAt C S q _) (by simp) rfl).trans (query_plain C S q g.1 0 b.1 0 a.1 t.1 a.1 (by omega) hb (by omega) t.2 (by simp [plainAt]) (by simp [plainIx]))).symm
    · cases h
  · rcases List.mem_cons.1 h with rfl | h
    · refine put32_ok (queryAt C S q) _ _ _ _ (fun a t => (queryRotated_apply C S q T hT hC hS g 1 b a t).trans ?_) x
      exact ((congrArg₂ (queryAt C S q _) (show 224 + a.1 = 128 * 1 + (96 + a.1) by omega) rfl).trans (query_rot C S q g.1 0 b.1 1 (96 + a.1) t.1 a.1 (by omega) hb (by omega) t.2 (by simp [plainAt]) (by simp [rotAt]) (by omega))).symm
    rcases List.mem_cons.1 h with rfl | h
    · refine put64_ok (queryAt C S q) _ _ _ _ (fun a t => (queryPlain_apply q T hT g 1 b a t).trans ?_) x
      exact ((congrArg₂ (queryAt C S q _) (show 160 + a.1 = 128 * 1 + (32 + a.1) by omega) rfl).trans (query_plain C S q g.1 0 b.1 1 (32 + a.1) t.1 a.1 (by omega) hb (by omega) t.2 (by simp [plainAt]; omega) (by simp [plainIx]))).symm
    · cases h
  · rcases List.mem_cons.1 h with rfl | h
    · refine put64_ok (queryAt C S q) _ _ _ _ (fun a t => (queryPlain_apply q T hT g 2 b a t).trans ?_) x
      exact ((congrArg₂ (queryAt C S q _) (show 64 + a.1 = 128 * 0 + (64 + a.1) by omega) rfl).trans (query_plain C S q g.1 1 b.1 0 (64 + a.1) t.1 a.1 (by omega) hb (by omega) t.2 (by simp [plainAt]) (by simp [plainIx]))).symm
    rcases List.mem_cons.1 h with rfl | h
    · refine put32_ok (queryAt C S q) _ _ _ _ (fun a t => (queryRotated_apply C S q T hT hC hS g 2 b a t).trans ?_) x
      exact ((congrArg₂ (queryAt C S q _) (show 32 + a.1 = 128 * 0 + (32 + a.1) by omega) rfl).trans (query_rot C S q g.1 1 b.1 0 (32 + a.1) t.1 a.1 (by omega) hb (by omega) t.2 (by simp [plainAt]; omega) (by simp [rotAt]; omega) (by omega))).symm
    · cases h
  · rcases List.mem_cons.1 h with rfl | h
    · refine put32_ok (queryAt C S q) _ _ _ _ (fun a t => (Eq.trans (slice0 _ a t) (queryPlain_apply q T hT g 3 b ⟨a.1, by omega⟩ t)).trans ?_) x
      exact ((congrArg₂ (queryAt C S q _) (show 224 + a.1 = 128 * 1 + (96 + a.1) by omega) rfl).trans (query_plain C S q g.1 1 b.1 1 (96 + a.1) t.1 a.1 (by omega) hb (by omega) t.2 (by simp [plainAt]) (by simp [plainIx]; omega))).symm
    rcases List.mem_cons.1 h with rfl | h
    · refine put32_ok (queryAt C S q) _ _ _ _ (fun a t => (queryRotated_apply C S q T hT hC hS g 3 b a t).trans ?_) x
      exact ((congrArg₂ (queryAt C S q _) (show 160 + a.1 = 128 * 1 + (32 + a.1) by omega) rfl).trans (query_rot C S q g.1 1 b.1 1 (32 + a.1) t.1 a.1 (by omega) hb (by omega) t.2 (by simp [plainAt]; omega) (by simp [rotAt]; omega) (by omega))).symm
    rcases List.mem_cons.1 h with rfl | h
    · refine put32_ok (queryAt C S q) _ _ _ _ (fun a t => (Eq.trans (slice32 _ a t) (queryPlain_apply q T hT g 3 b ⟨32 + a.1, by omega⟩ t)).trans ?_) x
      exact ((congrArg₂ (queryAt C S q _) (show 128 + a.1 = 128 * 1 + a.1 by omega) rfl).trans (query_plain C S q g.1 1 b.1 1 a.1 t.1 (32 + a.1) (by omega) hb (by omega) t.2 (by simp [plainAt]) (by simp [plainIx]; omega))).symm
    · cases h

include hT hC hS in
/-- The query buffer, at an index. -/
theorem queries_apply (M : List (View.Piece (Elt Ideal) S40x256x256 .bf16)) (hM : ∀ y, View.canon M y = (0 : EReal)) (y : S40x256x256.Idx) :
    View.canon (queryPieces T ++ M) y = queryAt C S q (y 0).1 (y 1).1 (y 2).1 := by
  refine canon_append (Val := Elt Ideal) (fun y : S40x256x256.Idx => queryAt C S q (y 0).1 (y 1).1 (y 2).1) (queryPieces T) M ?_ y ?_
  · intro pc hpc x
    simp only [queryPieces, List.mem_flatMap] at hpc
    obtain ⟨g, -, m, -, b, -, h⟩ := hpc
    exact headPieces_ok C S q T hT hC hS g m b pc h x
  · have h0 : (y 0).1 < 40 := (y 0).2
    have h1 : (y 1).1 < 256 := (y 1).2
    have h2 : (y 2).1 < 256 := (y 2).2
    have hE (o v : ℕ) (ho : (y 0).1 / 2 % 2 = o) (hv : (y 2).1 / 128 = v)
        (h : (y 1).1 / 128 = v → plainAt (2 * o + v) ((y 1).1 % 128) = false ∧ rotAt (2 * o + v) ((y 1).1 % 128) = false) :
        View.canon M y = queryAt C S q (y 0).1 (y 1).1 (y 2).1 := by
      rw [hM]
      have e := query_zero C S q ((y 0).1 / 4) o ((y 0).1 % 2) ((y 1).1 / 128) v ((y 1).1 % 128) ((y 2).1 % 128) (by omega) (by omega) (by omega) (by omega) h
      rw [show 4 * ((y 0).1 / 4) + 2 * o + (y 0).1 % 2 = (y 0).1 by omega, show 128 * ((y 1).1 / 128) + (y 1).1 % 128 = (y 1).1 by omega, show 128 * v + (y 2).1 % 128 = (y 2).1 by omega] at e
      exact e.symm
    obtain ho | ho : (y 0).1 / 2 % 2 = 0 ∨ (y 0).1 / 2 % 2 = 1 := by omega
    all_goals obtain hv | hv : (y 2).1 / 128 = 0 ∨ (y 2).1 / 128 = 1 := by omega
    · by_cases c1 : (y 1).1 < 64
      · exact .inl ⟨_, mem_queryPieces T ⟨(y 0).1 / 4, by omega⟩ 0 ⟨(y 0).1 % 2, by omega⟩ (.tail _ (.head _)), mem_put64 _ _ _ _ y (show _ = 4 * ((y 0).1 / 4) + 2 * 0 + (y 0).1 % 2 by omega) (show 0 ≤ _ ∧ _ < 0 + 64 by omega) (show 128 * 0 ≤ _ ∧ _ < 128 * 0 + 128 by omega)⟩
      by_cases c2 : (y 1).1 < 96
      · exact .inl ⟨_, mem_queryPieces T ⟨(y 0).1 / 4, by omega⟩ 0 ⟨(y 0).1 % 2, by omega⟩ (.head _), mem_put32 _ _ _ _ y (show _ = 4 * ((y 0).1 / 4) + 2 * 0 + (y 0).1 % 2 by omega) (show 64 ≤ _ ∧ _ < 64 + 32 by omega) (show 128 * 0 ≤ _ ∧ _ < 128 * 0 + 128 by omega)⟩
      · exact .inr (hE 0 0 ho hv fun h => ⟨by simp [plainAt]; omega, by simp [rotAt]; omega⟩)
    · by_cases c1 : 160 ≤ (y 1).1 ∧ (y 1).1 < 224
      · exact .inl ⟨_, mem_queryPieces T ⟨(y 0).1 / 4, by omega⟩ 1 ⟨(y 0).1 % 2, by omega⟩ (.tail _ (.head _)), mem_put64 _ _ _ _ y (show _ = 4 * ((y 0).1 / 4) + 2 * 0 + (y 0).1 % 2 by omega) (show 160 ≤ _ ∧ _ < 160 + 64 by omega) (show 128 * 1 ≤ _ ∧ _ < 128 * 1 + 128 by omega)⟩
      by_cases c2 : 224 ≤ (y 1).1
      · exact .inl ⟨_, mem_queryPieces T ⟨(y 0).1 / 4, by omega⟩ 1 ⟨(y 0).1 % 2, by omega⟩ (.head _), mem_put32 _ _ _ _ y (show _ = 4 * ((y 0).1 / 4) + 2 * 0 + (y 0).1 % 2 by omega) (show 224 ≤ _ ∧ _ < 224 + 32 by omega) (show 128 * 1 ≤ _ ∧ _ < 128 * 1 + 128 by omega)⟩
      · exact .inr (hE 0 1 ho hv fun h => ⟨by simp [plainAt]; omega, by simp [rotAt]; omega⟩)
    · by_cases c1 : 64 ≤ (y 1).1 ∧ (y 1).1 < 128
      · exact .inl ⟨_, mem_queryPieces T ⟨(y 0).1 / 4, by omega⟩ 2 ⟨(y 0).1 % 2, by omega⟩ (.head _), mem_put64 _ _ _ _ y (show _ = 4 * ((y 0).1 / 4) + 2 * 1 + (y 0).1 % 2 by omega) (show 64 ≤ _ ∧ _ < 64 + 64 by omega) (show 128 * 0 ≤ _ ∧ _ < 128 * 0 + 128 by omega)⟩
      by_cases c2 : 32 ≤ (y 1).1 ∧ (y 1).1 < 64
      · exact .inl ⟨_, mem_queryPieces T ⟨(y 0).1 / 4, by omega⟩ 2 ⟨(y 0).1 % 2, by omega⟩ (.tail _ (.head _)), mem_put32 _ _ _ _ y (show _ = 4 * ((y 0).1 / 4) + 2 * 1 + (y 0).1 % 2 by omega) (show 32 ≤ _ ∧ _ < 32 + 32 by omega) (show 128 * 0 ≤ _ ∧ _ < 128 * 0 + 128 by omega)⟩
      · exact .inr (hE 1 0 ho hv fun h => ⟨by simp [plainAt]; omega, by simp [rotAt]; omega⟩)
    · by_cases c1 : 128 ≤ (y 1).1 ∧ (y 1).1 < 160
      · exact .inl ⟨_, mem_queryPieces T ⟨(y 0).1 / 4, by omega⟩ 3 ⟨(y 0).1 % 2, by omega⟩ (.tail _ (.tail _ (.head _))), mem_put32 _ _ _ _ y (show _ = 4 * ((y 0).1 / 4) + 2 * 1 + (y 0).1 % 2 by omega) (show 128 ≤ _ ∧ _ < 128 + 32 by omega) (show 128 * 1 ≤ _ ∧ _ < 128 * 1 + 128 by omega)⟩
      by_cases c2 : 160 ≤ (y 1).1 ∧ (y 1).1 < 192
      · exact .inl ⟨_, mem_queryPieces T ⟨(y 0).1 / 4, by omega⟩ 3 ⟨(y 0).1 % 2, by omega⟩ (.tail _ (.head _)), mem_put32 _ _ _ _ y (show _ = 4 * ((y 0).1 / 4) + 2 * 1 + (y 0).1 % 2 by omega) (show 160 ≤ _ ∧ _ < 160 + 32 by omega) (show 128 * 1 ≤ _ ∧ _ < 128 * 1 + 128 by omega)⟩
      by_cases c3 : 224 ≤ (y 1).1
      · exact .inl ⟨_, mem_queryPieces T ⟨(y 0).1 / 4, by omega⟩ 3 ⟨(y 0).1 % 2, by omega⟩ (.head _), mem_put32 _ _ _ _ y (show _ = 4 * ((y 0).1 / 4) + 2 * 1 + (y 0).1 % 2 by omega) (show 224 ≤ _ ∧ _ < 224 + 32 by omega) (show 128 * 1 ≤ _ ∧ _ < 128 * 1 + 128 by omega)⟩
      · exact .inr (hE 1 1 ho hv fun h => ⟨by simp [plainAt]; omega, by simp [rotAt]; omega⟩)

end Queries

end Cert.Attention

end
-- ==== Proof.AttentionMath.lean ====
module

public import proofs.«01_k».proof.Proof.AttentionStores
public import proofs.«01_k».proof.Proof.ReferenceArrays
public import Idealize.ShloMosaic.Lib.Pointwise

/-!
# The angles of the rotation and the change of base in the softmax

The kernel takes powers of two, the reference powers of `e` and of ten thousand.
-/

@[expose] public section

noncomputable section

namespace Cert.Attention

open Idealize.ShloMosaic Idealize.ShloMosaic.TcCoe Idealize.SL.Sem

/-- The scale of the scores. -/
abbrev scoreScale : ℝ := (Real.sqrt 96)⁻¹

/-- The scale of the scores, with the change of base. -/
abbrev scoreExponent : ℝ := (Real.sqrt 96)⁻¹ * (Real.log 2)⁻¹

theorem scoreScale_pos : 0 < scoreScale := inv_pos.2 (Real.sqrt_pos.2 (by norm_num))

theorem scoreExponent_pos : 0 < scoreExponent := mul_pos scoreScale_pos (inv_pos.2 (Real.log_pos (by norm_num)))

/-- A power of `e` is a power of two of the scaled exponent. -/
theorem exp_scale (x : EReal) : Ideal.exp (x * (scoreScale : ℝ)) = Ideal.exp2 (x * (scoreExponent : ℝ)) := by
  induction x with
  | bot => rw [EReal.bot_mul_coe_of_pos scoreScale_pos, EReal.bot_mul_coe_of_pos scoreExponent_pos]; rfl
  | top => rw [EReal.top_mul_coe_of_pos scoreScale_pos, EReal.top_mul_coe_of_pos scoreExponent_pos]; rfl
  | coe r =>
    rw [← EReal.coe_mul, ← EReal.coe_mul, Ideal.exp_coe, Ideal.exp2_coe, Real.rpow_eq_pow, Real.rpow_def_of_pos (by norm_num)]
    congr 2
    have : Real.log 2 ≠ 0 := (Real.log_pos (by norm_num)).ne'
    field_simp

/-- A positive real distributes over a difference. -/
theorem sub_mul_pos (a b : EReal) (k : ℝ) (hk : 0 < k) : (a - b) * (k : EReal) = a * k - b * k := by
  induction a with
  | bot => rw [EReal.bot_sub, EReal.bot_mul_coe_of_pos hk, EReal.bot_sub]
  | top =>
    induction b with
    | bot => rw [EReal.bot_mul_coe_of_pos hk, EReal.top_mul_coe_of_pos hk]; exact EReal.top_mul_coe_of_pos hk
    | top => rw [EReal.top_mul_coe_of_pos hk, EReal.sub_top]; exact EReal.bot_mul_coe_of_pos hk
    | coe b => rw [EReal.top_sub_coe, EReal.top_mul_coe_of_pos hk, ← EReal.coe_mul, EReal.top_sub_coe]
  | coe a =>
    induction b with
    | bot => rw [EReal.bot_mul_coe_of_pos hk, ← EReal.coe_mul, EReal.coe_sub_bot, EReal.coe_sub_bot, EReal.top_mul_coe_of_pos hk]
    | top => rw [EReal.top_mul_coe_of_pos hk, EReal.sub_top, EReal.sub_top, EReal.bot_mul_coe_of_pos hk]
    | coe b => rw [← EReal.coe_sub, ← EReal.coe_mul, ← EReal.coe_mul, ← EReal.coe_mul, ← EReal.coe_sub, sub_mul]

/-- A positive real goes through a largest value. -/
theorem max_mul_pos {ι : Type} (s : Finset ι) (f : ι → EReal) (k : ℝ) (hk : 0 < k) :
    s.fold max ⊥ (fun i => f i * (k : EReal)) = s.fold max ⊥ f * (k : EReal) := by
  have h := Finset.fold_hom (op := max) (op' := max) (s := s) (b := (⊥ : EReal)) (f := f) (m := fun x : EReal => x * (k : EReal))
    (fun x y => (Monotone.map_max (f := fun x : EReal => x * (k : EReal)) (fun a b hab => mul_le_mul_of_nonneg_right hab (EReal.coe_nonneg.2 hk.le))))
  rw [← h, EReal.bot_mul_coe_of_pos hk]

/-- The weight of position `t`, before normalisation, for a query whose scores up to it are `f`. -/
def expAt (f : Fin 128 → EReal) (t : Fin 128) : EReal :=
  Ideal.exp2 ((f t - Finset.univ.fold max ⊥ f) * (scoreExponent : ℝ))

theorem exp_eq (f : Fin 128 → EReal) (t : Fin 128) :
    Ideal.exp (f t * (scoreScale : ℝ) - Finset.univ.fold max ⊥ (fun t => f t * (scoreScale : ℝ))) = expAt f t := by
  unfold expAt
  rw [max_mul_pos _ _ _ scoreScale_pos, ← sub_mul_pos _ _ _ scoreScale_pos, exp_scale]

/-- The scores a query at position `i` sees. -/
def seen (i : Fin 128) (s : Fin 128 → EReal) (t : Fin 128) : EReal := if t.1 ≤ i.1 then s t else ⊥

/-- The weight of position `t` for a query at position `i`. -/
def weightAt (i : Fin 128) (s : Fin 128 → EReal) (t : Fin 128) : EReal :=
  expAt (seen i s) t * Ideal.div 1 (∑ t, expAt (seen i s) t)

/-- The angle of pair `i` at position `t`. -/
def angle (t i : ℕ) : EReal := (((t : ℝ) * (Real.rpow 10000 ((i : ℝ) / 16))⁻¹ : ℝ) : EReal)

theorem exp2_angle (i : ℕ) : Ideal.exp2 ((((i : ℝ)) : EReal) * ((-((Real.log 10000) * (16 * (Real.log 2))⁻¹) : ℝ) : EReal)) = (((Real.rpow 10000 ((i : ℝ) / 16))⁻¹ : ℝ) : EReal) := by
  rw [← EReal.coe_mul, Ideal.exp2_coe, Real.rpow_eq_pow, Real.rpow_eq_pow, Real.rpow_def_of_pos (by norm_num), Real.rpow_def_of_pos (by norm_num), ← Real.exp_neg]
  congr 2
  have : Real.log 2 ≠ 0 := (Real.log_pos (by norm_num)).ne'
  field_simp

end Cert.Attention

end
-- ==== Proof.AttentionKernel.lean ====
module

public import proofs.«01_k».proof.Proof.AttentionBuffers
public import proofs.«01_k».proof.Proof.AttentionMath

/-!
# What the kernel's attention computes for a pair of heads

The weights of a pair of heads are the softmax of the scores; the scores of a head, summed over the 256 lanes of the
pair, are its scores without rotation and with rotation; the output tiles of a group hold the heads' outputs side by side.
-/

@[expose] public section

noncomputable section

namespace Cert.Attention

open Idealize.ShloMosaic Idealize.ShloMosaic.TcCoe Idealize.SL.Sem
open Cert.KernelIdeal Cert.KernelIdeal.Gen Cert.KernelIdeal.Arrays

/-! ## The weights -/

theorem position_word (u : Fin 256) : (Scalar.select
                    (IntOp.andi
                      (IntOp.xori
                        (IntOp.cmpi CmpIPredicate.slt (IntOp.remsi ArithUnit.vector (BitVec.ofNat 32 u.1) 128#32) 0#32)
                        (Scalar.cmpi CmpIPredicate.slt 128#32 0#32))
                      (IntOp.cmpi CmpIPredicate.ne (IntOp.remsi ArithUnit.vector (BitVec.ofNat 32 u.1) 128#32) 0#32))
                    (IntOp.addi (IntOp.remsi ArithUnit.vector (BitVec.ofNat 32 u.1) 128#32) 128#32)
                    (IntOp.remsi ArithUnit.vector (BitVec.ofNat 32 u.1) 128#32)) = BitVec.ofNat 32 (u.1 % 128) := by
  revert u
  decide +kernel

/-- Comparing positions as words, to keep a score or mask it. -/
theorem keep_score (a b : ℕ) (ha : a < 128) (hb : b < 128) (x y : EReal) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) := by
    have ha' : (BitVec.ofNat 32 a).toInt = a := by
      rw [BitVec.toInt_eq_toNat_of_lt (by rw [BitVec.toNat_ofNat]; omega), BitVec.toNat_ofNat]; omega
    have hb' : (BitVec.ofNat 32 b).toInt = b := by
      rw [BitVec.toInt_eq_toNat_of_lt (by rw [BitVec.toNat_ofNat]; omega), BitVec.toNat_ofNat]; omega
    show BitVec.ofBool (BitVec.sle _ _) = _
    rw [BitVec.sle_eq_decide, ha', hb']
    congr 1
    simp
  rw [h]
  by_cases h' : a ≤ b <;> simp only [h', decide_true, decide_false, if_true, if_false] <;> rfl

theorem bits_bot : Ideal.ofBits .f32 4286578688#32 = ⊥ := by
  simp [Ideal.ofBits, Ideal.ieee]

theorem score_exponent : Named.named (F := Ideal) κ "score_exponent" (φ := .f32) 1041680192#32 = ((scoreExponent : ℝ) : EReal) := rfl

/-- The weights of the even head. -/
theorem weights_left (K : Vec Ideal S128x256 .bf16) (Q : Vec Ideal S1x256x256 .bf16) (i t : Fin 128) :
    weights K Q (ix2 i ⟨t.1, by omega⟩) = weightAt i (fun t => ∑ x, K (ix2 t x) * Q (ix3 0 x ⟨i.1, by omega⟩)) t := by
  unfold weights k0_pay802 k0_pay799
  pointwise
  have hp := position_word ⟨i.1, by omega⟩
  dsimp only at hp
  rw [Nat.mod_eq_of_lt i.2] at hp
  simp only [hp, score_exponent, bits_bot]
  have hk : ∀ (t : Fin 128) (x : EReal), Scalar.select (IntOp.cmpi CmpIPredicate.sle (BitVec.ofNat 32 t.1) (BitVec.ofNat 32 i.1)) x ⊥ = if t.1 ≤ i.1 then x else ⊥ :=
    fun t x => keep_score t.1 i.1 t.2 i.2 x ⊥
  simp only [hk]
  rfl

/-- The weights of the odd head. -/
theorem weights_right (K : Vec Ideal S128x256 .bf16) (Q : Vec Ideal S1x256x256 .bf16) (i t : Fin 128) :
    weights K Q (ix2 i ⟨128 + t.1, by omega⟩) = weightAt i (fun t => ∑ x, K (ix2 t x) * Q (ix3 0 x ⟨128 + i.1, by omega⟩)) t := by
  unfold weights k0_pay802 k0_pay799
  pointwise
  have hp := position_word ⟨128 + i.1, by omega⟩
  dsimp only at hp
  rw [show (128 + i.1) % 128 = i.1 by omega] at hp
  simp only [hp, score_exponent, bits_bot]
  have hk : ∀ (t : Fin 128) (x : EReal), Scalar.select (IntOp.cmpi CmpIPredicate.sle (BitVec.ofNat 32 t.1) (BitVec.ofNat 32 i.1)) x ⊥ = if t.1 ≤ i.1 then x else ⊥ :=
    fun t x => keep_score t.1 i.1 t.2 i.2 x ⊥
  simp only [Nat.add_sub_cancel_left, hk]
  rfl

/-- A sum over two halves. -/
theorem sum_halves (f : Fin 256 → EReal) : ∑ u, f u = ∑ t : Fin 128, f ⟨t.1, by omega⟩ + ∑ t : Fin 128, f ⟨128 + t.1, by omega⟩ :=
  Fin.sum_univ_add (a := 128) (b := 128) f

/-- The outputs of a pair of heads. -/
theorem pairOut_apply (K : Vec Ideal S128x256 .bf16) (Q V : Vec Ideal S1x256x256 .bf16) (i : Fin 128) (v : Fin 256) :
    pairOut K Q V (ix2 i v)
      = ∑ t : Fin 128, weightAt i (fun t => ∑ x, K (ix2 t x) * Q (ix3 0 x ⟨i.1, by omega⟩)) t * V (ix3 0 ⟨t.1, by omega⟩ v)
        + ∑ t : Fin 128, weightAt i (fun t => ∑ x, K (ix2 t x) * Q (ix3 0 x ⟨128 + i.1, by omega⟩)) t * V (ix3 0 ⟨128 + t.1, by omega⟩ v) := by
  unfold pairOut k0_pay804 k0_pay803
  pointwise
  rw [sum_halves]
  simp only [weights_left, weights_right]

/-! ## The scores -/

/-- The scores of head `h` in batch `b`: query at `i`, key at `t`. -/
def scoreAt (C S q kv kr : ℕ → ℕ → EReal) (b h i t : ℕ) : EReal :=
  ∑ x : Fin 64, q (128 * b + i) (96 * h + x.1) * kv (128 * b + t) (160 * h + x.1)
    + ∑ x : Fin 32, rot C S (kr (128 * b + t)) t x.1 * rot C S (fun r => q (128 * b + i) (96 * h + 64 + r)) i x.1

section Lanes

variable (m : ℕ) (k p r s : ℕ → EReal)

/-- The product of a key lane and a query lane. -/
def laneProduct (l : ℕ) : EReal :=
  (if plainAt m l then k (plainIx m l) else r (l % 32)) * (if plainAt m l then p (plainIx m l) else if rotAt m l then s (l % 32) else 0)

theorem lane_plain (l a : ℕ) (h : plainAt m l = true) (h' : plainIx m l = a) : laneProduct m k p r s l = p a * k a := by
  unfold laneProduct
  rw [if_pos h, if_pos h, h', mul_comm]

theorem lane_rot (l a : ℕ) (h : plainAt m l = false) (h' : rotAt m l = true) (ha : l % 32 = a) : laneProduct m k p r s l = r a * s a := by
  unfold laneProduct
  rw [if_neg (by rw [h]; decide), if_neg (by rw [h]; decide), if_pos h', ha]

theorem lane_zero (l : ℕ) (h : plainAt m l = false) (h' : rotAt m l = false) : laneProduct m k p r s l = 0 := by
  unfold laneProduct
  rw [if_neg (by rw [h]; decide), if_neg (by rw [h]; decide), if_neg (by rw [h']; decide), mul_zero]

theorem sum_quarters (f : ℕ → EReal) : ∑ l : Fin 128, f l.1 = ∑ x ∈ Finset.range 32, f x + ∑ x ∈ Finset.range 32, f (32 + x) + ∑ x ∈ Finset.range 32, f (64 + x) + ∑ x ∈ Finset.range 32, f (96 + x) := by
  rw [Fin.sum_univ_eq_sum_range f 128, show 128 = 96 + 32 from rfl, Finset.sum_range_add, show 96 = 64 + 32 from rfl, Finset.sum_range_add, show 64 = 32 + 32 from rfl, Finset.sum_range_add]

/-- The lanes of a head: its dimensions without rotation, then those with rotation. -/
theorem lanes_sum (hm : m < 4) : ∑ l : Fin 128, laneProduct m k p r s l.1 = ∑ x : Fin 64, p x.1 * k x.1 + ∑ x : Fin 32, r x.1 * s x.1 := by
  rw [sum_quarters, Fin.sum_univ_eq_sum_range (fun x => p x * k x) 64, Fin.sum_univ_eq_sum_range (fun x => r x * s x) 32, show 64 = 32 + 32 from rfl, Finset.sum_range_add]
  have hp (o a : ℕ) (h : ∀ x < 32, plainAt m (o + x) = true ∧ plainIx m (o + x) = a + x) :
      ∑ x ∈ Finset.range 32, laneProduct m k p r s (o + x) = ∑ x ∈ Finset.range 32, p (a + x) * k (a + x) :=
    Finset.sum_congr rfl fun x hx => lane_plain m k p r s _ _ (h x (Finset.mem_range.1 hx)).1 (h x (Finset.mem_range.1 hx)).2
  have hr (o : ℕ) (h : ∀ x < 32, plainAt m (o + x) = false ∧ rotAt m (o + x) = true ∧ (o + x) % 32 = x) :
      ∑ x ∈ Finset.range 32, laneProduct m k p r s (o + x) = ∑ x ∈ Finset.range 32, r x * s x :=
    Finset.sum_congr rfl fun x hx => lane_rot m k p r s _ _ (h x (Finset.mem_range.1 hx)).1 (h x (Finset.mem_range.1 hx)).2.1 (h x (Finset.mem_range.1 hx)).2.2
  have hz (o : ℕ) (h : ∀ x < 32, plainAt m (o + x) = false ∧ rotAt m (o + x) = false) :
      ∑ x ∈ Finset.range 32, laneProduct m k p r s (o + x) = 0 :=
    Finset.sum_eq_zero fun x hx => lane_zero m k p r s _ (h x (Finset.mem_range.1 hx)).1 (h x (Finset.mem_range.1 hx)).2
  have h0 : ∑ x ∈ Finset.range 32, laneProduct m k p r s x = ∑ x ∈ Finset.range 32, laneProduct m k p r s (0 + x) := by simp only [Nat.zero_add]
  have h1 : ∑ x ∈ Finset.range 32, p x * k x = ∑ x ∈ Finset.range 32, p (0 + x) * k (0 + x) := by simp only [Nat.zero_add]
  rw [h0, h1]
  interval_cases m
  · rw [hp 0 0 fun x hx => ⟨by simp [plainAt] <;> omega, by simp [plainIx] <;> omega⟩, hp 32 32 fun x hx => ⟨by simp [plainAt] <;> omega, by simp [plainIx] <;> omega⟩,
      hr 64 fun x hx => ⟨by simp [plainAt] <;> omega, by simp [rotAt] <;> omega, by omega⟩, hz 96 fun x hx => ⟨by simp [plainAt] <;> omega, by simp [rotAt] <;> omega⟩, add_zero]
  · rw [hz 0 fun x hx => ⟨by simp [plainAt] <;> omega, by simp [rotAt] <;> omega⟩, hp 32 0 fun x hx => ⟨by simp [plainAt] <;> omega, by simp [plainIx] <;> omega⟩, hp 64 32 fun x hx => ⟨by simp [plainAt] <;> omega, by simp [plainIx] <;> omega⟩,
      hr 96 fun x hx => ⟨by simp [plainAt] <;> omega, by simp [rotAt] <;> omega, by omega⟩, zero_add]
  · rw [hz 0 fun x hx => ⟨by simp [plainAt] <;> omega, by simp [rotAt] <;> omega⟩, hr 32 fun x hx => ⟨by simp [plainAt] <;> omega, by simp [rotAt] <;> omega, by omega⟩, hp 64 0 fun x hx => ⟨by simp [plainAt] <;> omega, by simp [plainIx] <;> omega⟩, hp 96 32 fun x hx => ⟨by simp [plainAt] <;> omega, by simp [plainIx] <;> omega⟩,
      zero_add]
    abel
  · rw [hp 0 32 fun x hx => ⟨by simp [plainAt] <;> omega, by simp [plainIx, hx] <;> omega⟩, hr 32 fun x hx => ⟨by simp [plainAt] <;> omega, by simp [rotAt] <;> omega, by omega⟩, hz 64 fun x hx => ⟨by simp [plainAt] <;> omega, by simp [rotAt] <;> omega⟩, hp 96 0 fun x hx => ⟨by simp [plainAt] <;> omega, by simp [plainIx] <;> omega⟩, add_zero]
    abel

end Lanes

section Tiles

variable (C S q kv kr : ℕ → ℕ → EReal)

/-- The scores of the head in half `w` of a pair, summed over the lanes of the pair. -/
theorem pair_score (g o b w i t : ℕ) (ho : o < 2) (hb : b < 2) (hw : w < 2) (hi : i < 128) (ht : t < 128) :
    ∑ x : Fin 256, keyAt C S kv kr (128 * b + t) (256 * (2 * g + o) + x.1) * queryAt C S q (4 * g + 2 * o + b) x.1 (128 * w + i)
      = scoreAt C S q kv kr b (4 * g + 2 * o + w) i t := by
  have own : ∀ v < 2, ∑ l : Fin 128, keyAt C S kv kr (128 * b + t) (256 * (2 * g + o) + (128 * v + l.1)) * queryAt C S q (4 * g + 2 * o + b) (128 * v + l.1) (128 * w + i)
      = if v = w then scoreAt C S q kv kr b (4 * g + 2 * o + w) i t else 0 := by
    intro v hv
    by_cases h : v = w
    · subst h
      rw [if_pos rfl]
      refine Eq.trans ?_ (lanes_sum (2 * o + v) (fun a => kv (128 * b + t) (160 * (4 * g + 2 * o + v) + a)) (fun a => q (128 * b + i) (96 * (4 * g + 2 * o + v) + a))
        (rot C S (kr (128 * b + t)) t) (rot C S (fun r => q (128 * b + i) (96 * (4 * g + 2 * o + v) + 64 + r)) i) (by omega))
      refine Finset.sum_congr rfl fun l _ => ?_
      rw [queryAt_eq C S q g o b v l.1 v i ho hb l.2 hi, if_pos rfl,
        show 256 * (2 * g + o) + (128 * v + l.1) = 128 * (4 * g + (2 * o + v)) + l.1 by omega, keyAt_eq C S kv kr _ g (2 * o + v) l.1 (by omega) l.2,
        show (128 * b + t) % 128 = t by omega, show 4 * g + (2 * o + v) = 4 * g + 2 * o + v by omega]
      rfl
    · rw [if_neg h]
      refine Finset.sum_eq_zero fun l _ => ?_
      rw [queryAt_eq C S q g o b v l.1 w i ho hb l.2 hi, if_neg h, mul_zero]
  rw [sum_halves]
  have h0 := own 0 (by omega)
  have h1 := own 1 (by omega)
  simp only [Nat.mul_zero, Nat.zero_add, Nat.mul_one] at h0 h1
  rw [h0, h1]
  obtain rfl | rfl : w = 0 ∨ w = 1 := by omega
  · rw [if_pos rfl, if_neg (by omega), add_zero]
  · rw [if_neg (by omega), if_pos rfl, zero_add]

/-- The output of head `h` in batch `b`, query at `i`, dimension `d`. -/
def headOut (b h : ℕ) (i : Fin 128) (d : ℕ) : EReal :=
  ∑ t : Fin 128, weightAt i (fun t => scoreAt C S q kv kr b h i.1 t.1) t * kv (128 * b + t.1) (160 * h + 64 + d)

/-- The outputs of a pair of heads, from what the buffers hold. -/
theorem pairOut_eq (K : Vec Ideal S128x256 .bf16) (Q V : Vec Ideal S1x256x256 .bf16) (g o b : ℕ) (ho : o < 2) (hb : b < 2)
    (hK : ∀ t x, K (ix2 t x) = keyAt C S kv kr (128 * b + t.1) (256 * (2 * g + o) + x.1))
    (hQ : ∀ x y, Q (ix3 0 x y) = queryAt C S q (4 * g + 2 * o + b) x.1 y.1)
    (hV : ∀ x y, V (ix3 0 x y) = valueAt kv (4 * g + 2 * o + b) x.1 y.1) (i : Fin 128) (v : Fin 256) :
    pairOut K Q V (ix2 i v)
      = (if (128 * o + v.1) / 96 = 2 * o then headOut C S q kv kr b (4 * g + 2 * o) i ((128 * o + v.1) % 96) else 0)
        + (if (128 * o + v.1) / 96 = 2 * o + 1 then headOut C S q kv kr b (4 * g + 2 * o + 1) i ((128 * o + v.1) % 96) else 0) := by
  have half : ∀ w < 2, ∑ t : Fin 128, weightAt i (fun t => scoreAt C S q kv kr b (4 * g + 2 * o + w) i.1 t.1) t * valueAt kv (4 * g + 2 * o + b) (128 * w + t.1) v.1
      = if (128 * o + v.1) / 96 = 2 * o + w then headOut C S q kv kr b (4 * g + 2 * o + w) i ((128 * o + v.1) % 96) else 0 := by
    intro w hw
    split_ifs with h
    · refine Finset.sum_congr rfl fun t _ => ?_
      rw [valueAt_eq kv g o b w t.1 v.1 ho hb t.2, if_pos (by omega), show 128 * o + v.1 - 96 * (2 * o + w) = (128 * o + v.1) % 96 by omega]
    · refine Finset.sum_eq_zero fun t _ => ?_
      rw [valueAt_eq kv g o b w t.1 v.1 ho hb t.2, if_neg (by omega), mul_zero]
  have h0 := half 0 (by omega)
  have h1 := half 1 (by omega)
  have s0 : ∀ t : Fin 128, ∑ x : Fin 256, keyAt C S kv kr (128 * b + t.1) (256 * (2 * g + o) + x.1) * queryAt C S q (4 * g + 2 * o + b) x.1 i.1 = scoreAt C S q kv kr b (4 * g + 2 * o) i.1 t.1 := by
    intro t
    have := pair_score C S q kv kr g o b 0 i.1 t.1 ho hb (by omega) i.2 t.2
    simpa only [Nat.mul_zero, Nat.zero_add, Nat.add_zero] using this
  have s1 : ∀ t : Fin 128, ∑ x : Fin 256, keyAt C S kv kr (128 * b + t.1) (256 * (2 * g + o) + x.1) * queryAt C S q (4 * g + 2 * o + b) x.1 (128 + i.1) = scoreAt C S q kv kr b (4 * g + 2 * o + 1) i.1 t.1 := by
    intro t
    have := pair_score C S q kv kr g o b 1 i.1 t.1 ho hb (by omega) i.2 t.2
    simpa only [Nat.mul_one] using this
  simp only [Nat.mul_zero, Nat.zero_add, Nat.add_zero, Nat.mul_one] at h0 h1
  rw [pairOut_apply]
  simp only [hK, hQ, hV, s0, s1]
  rw [h0, h1]

/-- The attention's output at a row and a column. -/
def outAt (r c : ℕ) : EReal := headOut C S q kv kr (r / 128) (c / 96) ⟨r % 128, by omega⟩ (c % 96)

/-- An output tile of a group. -/
theorem outTile_eq (K : Fin 2 → Vec Ideal S128x256 .bf16) (Q V : Fin 2 → Vec Ideal S1x256x256 .bf16) (g b : ℕ) (hb : b < 2)
    (hK : ∀ o t x, K o (ix2 t x) = keyAt C S kv kr (128 * b + t.1) (256 * (2 * g + o.1) + x.1))
    (hQ : ∀ o x y, Q o (ix3 0 x y) = queryAt C S q (4 * g + 2 * o.1 + b) x.1 y.1)
    (hV : ∀ o x y, V o (ix3 0 x y) = valueAt kv (4 * g + 2 * o.1 + b) x.1 y.1) (j : Fin 3) (i c : Fin 128) :
    outTile K Q V j (ix2 i c) = outAt C S q kv kr (128 * b + i.1) (128 * (3 * g + j.1) + c.1) := by
  have p0 := pairOut_eq C S q kv kr (K 0) (Q 0) (V 0) g 0 b (by omega) hb (hK 0) (hQ 0) (hV 0) i
  have p1 := pairOut_eq C S q kv kr (K 1) (Q 1) (V 1) g 1 b (by omega) hb (hK 1) (hQ 1) (hV 1) i
  have ho : ∀ n w, n < 4 → w / 96 = n → 128 * (3 * g + j.1) + c.1 = 384 * g + w →
      outAt C S q kv kr (128 * b + i.1) (128 * (3 * g + j.1) + c.1) = headOut C S q kv kr b (4 * g + n) i (w % 96) := by
    intro n w hn h e
    unfold outAt
    have e0 : (⟨(128 * b + i.1) % 128, by omega⟩ : Fin 128) = i := Fin.ext (by show (128 * b + i.1) % 128 = i.1; omega)
    rw [e0, show (128 * b + i.1) / 128 = b by omega, e, show (384 * g + w) / 96 = 4 * g + n by omega, show (384 * g + w) % 96 = w % 96 by omega]
  have hc := c.2
  fin_cases j
  · have hs : outTile K Q V 0 (ix2 i c) = pairOut (K 0) (Q 0) (V 0) (ix2 i ⟨c.1, by omega⟩) := by
      unfold outTile
      pointwise
    refine hs.trans ((p0 _).trans ?_)
    dsimp only
    by_cases h : c.1 / 96 = 0
    · rw [if_pos (by omega), if_neg (by omega), add_zero, ho 0 (128 * 0 + c.1) (by omega) (by omega) (by dsimp only; omega)]
    · rw [if_neg (by omega), if_pos (by omega), zero_add, ho 1 (128 * 0 + c.1) (by omega) (by omega) (by dsimp only; omega)]
  · have hs : outTile K Q V 1 (ix2 i c) = pairOut (K 0) (Q 0) (V 0) (ix2 i ⟨128 + c.1, by omega⟩) + pairOut (K 1) (Q 1) (V 1) (ix2 i ⟨c.1, by omega⟩) := by
      unfold outTile
      pointwise
    refine hs.trans ((congrArg₂ (· + ·) (p0 _) (p1 _)).trans ?_)
    dsimp only
    by_cases h : (128 + c.1) / 96 = 1
    · rw [if_neg (by omega), if_pos (by omega), if_neg (by omega), if_neg (by omega), add_zero, add_zero, zero_add, ho 1 (128 * 0 + (128 + c.1)) (by omega) (by omega) (by dsimp only; omega)]
    · rw [if_neg (by omega), if_neg (by omega), if_pos (by omega), if_neg (by omega), add_zero, add_zero, zero_add, ho 2 (128 * 1 + c.1) (by omega) (by omega) (by dsimp only; omega)]
  · have hs : outTile K Q V 2 (ix2 i c) = pairOut (K 1) (Q 1) (V 1) (ix2 i ⟨128 + c.1, by omega⟩) := by
      unfold outTile
      pointwise
    refine hs.trans ((p1 _).trans ?_)
    dsimp only
    by_cases h : (256 + c.1) / 96 = 2
    · rw [if_pos (by omega), if_neg (by omega), add_zero, ho 2 (128 * 1 + (128 + c.1)) (by omega) (by omega) (by dsimp only; omega)]
    · rw [if_neg (by omega), if_pos (by omega), zero_add, ho 3 (128 * 1 + (128 + c.1)) (by omega) (by omega) (by dsimp only; omega)]

end Tiles

end Cert.Attention

end
-- ==== Proof.AttentionAngles.lean ====
module

public import proofs.«01_k».proof.Proof.AttentionMath

/-!
# The angles of the two programs

Both programs rotate by the same angles.
-/

@[expose] public section

noncomputable section

namespace Cert.Attention

open Idealize.ShloMosaic Idealize.ShloMosaic.TcCoe Idealize.SL.Sem

/-- A small number as a word, read as a float. -/
theorem sitofp_nat (n : ℕ) (hn : n < 2 ^ 31) : (FloatOps.sitofp (F := Ideal) .f32 (BitVec.ofNat 32 n) : EReal) = ((n : ℝ) : EReal) := by
  show (((BitVec.ofNat 32 n).toInt : ℝ) : EReal) = _
  have h : (BitVec.ofNat 32 n).toInt = n := by
    rw [BitVec.toInt_eq_toNat_of_lt (by rw [BitVec.toNat_ofNat]; omega), BitVec.toNat_ofNat]
    omega
  rw [h]
  norm_cast

/-- Half a row number, as words compute it. -/
theorem half_word (r : Fin 32) : (Scalar.select
              (IntOp.andi
                (IntOp.cmpi CmpIPredicate.ne
                  (IntOp.subi (BitVec.setWidth 32 (IntOp.cmpi CmpIPredicate.sgt (BitVec.ofNat 32 r.1) 0#32))
                    (BitVec.setWidth 32 (IntOp.cmpi CmpIPredicate.slt (BitVec.ofNat 32 r.1) 0#32)))
                  (Scalar.subi (Scalar.extui (Scalar.cmpi CmpIPredicate.sgt 2#32 0#32))
                    (Scalar.extui (Scalar.cmpi CmpIPredicate.slt 2#32 0#32))))
                (IntOp.cmpi CmpIPredicate.ne (IntOp.remsi ArithUnit.vector (BitVec.ofNat 32 r.1) 2#32) 0#32))
              (IntOp.subi (IntOp.divsi ArithUnit.vector (BitVec.ofNat 32 r.1) 2#32) 1#32)
              (IntOp.divsi ArithUnit.vector (BitVec.ofNat 32 r.1) 2#32)) = BitVec.ofNat 32 (r.1 / 2) := by
  revert r
  decide

theorem theta_exponent : Named.named (F := Ideal) Cert.KernelIdeal.κ "theta_exponent" (φ := .f32) 3209992824#32 = ((-((Real.log 10000) * (16 * (Real.log 2))⁻¹) : ℝ) : EReal) := rfl

/-- The kernel's angle of row `r` at position `t`. -/
theorem kernelAngle (r : Fin 32) (t : Fin 128) : Cert.KernelIdeal.Gen.k0_pay13 (F := Ideal) (ix2 r t) = angle t.1 (r.1 / 2) := by
  unfold Cert.KernelIdeal.Gen.k0_pay13
  pointwise
  rw [half_word, sitofp_nat _ (by omega), sitofp_nat _ (by omega), theta_exponent]
  show _ * Ideal.exp2 _ = _
  rw [exp2_angle, ← EReal.coe_mul]
  rfl

theorem bits_10000 : Ideal.ofBits .f32 1176256512#32 = ((10000 : ℝ) : EReal) := by
  simp [Ideal.ofBits, Ideal.ieee]
  rw [← EReal.coe_mul]
  norm_num

theorem bits_32 : Ideal.ofBits .f32 1107296256#32 = ((32 : ℝ) : EReal) := by
  simp [Ideal.ofBits, Ideal.ieee]
  rw [← EReal.coe_mul]
  norm_num

theorem double_word (i : Fin 16) : IntOp.muli (2#32) (BitVec.ofNat 32 i.1) = BitVec.ofNat 32 (2 * i.1) := by
  revert i
  decide

theorem div_coe (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

/-- The reference's angle of pair `i` at position `t`. -/
theorem referenceAngle (t : Fin 128) (i : Fin 16) : Cert.ReferenceIdeal.Gen.k0_pay23 (F := Ideal) (ix2 t i) = angle t.1 i.1 := by
  unfold Cert.ReferenceIdeal.Gen.k0_pay23
  pointwise
  rw [double_word, sitofp_nat _ (by omega), sitofp_nat _ (by omega), bits_10000, bits_32, div_coe _ _ (by norm_num), Ideal.pow_coe_coe,
    show (1 : EReal) = ((1 : ℝ) : EReal) by rfl, div_coe _ _ (by rw [Real.rpow_eq_pow]; positivity), ← EReal.coe_mul]
  unfold angle
  rw [one_mul]
  congr 4
  push_cast
  ring

/-- The cosines by row and position. -/
def cosAt (r t : ℕ) : EReal := Ideal.cos (angle t (r / 2))

/-- The sines by row and position. -/
def sinAt (r t : ℕ) : EReal := Ideal.sin (angle t (r / 2))

theorem kernelCos (r : Fin 32) (t : Fin 128) : Cert.KernelIdeal.Gen.k0_pay14 (F := Ideal) (ix2 r t) = cosAt r.1 t.1 :=
  congrArg Ideal.cos (kernelAngle r t)

theorem kernelSin (r : Fin 32) (t : Fin 128) : Cert.KernelIdeal.Gen.k0_pay15 (F := Ideal) (ix2 r t) = sinAt r.1 t.1 :=
  congrArg Ideal.sin (kernelAngle r t)

theorem referenceCos (t : Fin 128) (i : Fin 16) : Cert.ReferenceIdeal.Gen.k0_pay24 (F := Ideal) (ix2 t i) = Ideal.cos (angle t.1 i.1) :=
  congrArg Ideal.cos (referenceAngle t i)

theorem referenceSin (t : Fin 128) (i : Fin 16) : Cert.ReferenceIdeal.Gen.k0_pay25 (F := Ideal) (ix2 t i) = Ideal.sin (angle t.1 i.1) :=
  congrArg Ideal.sin (referenceAngle t i)

end Cert.Attention

end
-- ==== Proof.AttentionReference.lean ====
module

public import proofs.«01_k».proof.Proof.AttentionKernel
public import proofs.«01_k».proof.Proof.AttentionAngles

/-!
# What the reference's attention computes

The reference's scores, weights and outputs, at an index, from its queries, its keys and values and its rotary key.
-/

@[expose] public section

noncomputable section

namespace Cert.Attention

open Idealize.ShloMosaic Idealize.ShloMosaic.TcCoe Idealize.SL.Sem
open Cert.ReferenceIdeal Cert.ReferenceIdeal.Gen

/-- The rotation of 32 numbers pair by pair is the rotation row by row. -/
theorem rot_pair (v : ℕ → EReal) (t r : ℕ) :
    (if r % 2 < 1 then v (r / 2 * 2) * Ideal.cos (angle t (r / 2)) - v (r / 2 * 2 + 1) * Ideal.sin (angle t (r / 2))
      else v (r / 2 * 2) * Ideal.sin (angle t (r / 2)) + v (r / 2 * 2 + 1) * Ideal.cos (angle t (r / 2))) = rot cosAt sinAt v t r := by
  unfold rot cosAt sinAt
  by_cases h : r % 2 = 0
  · rw [if_pos (by omega), if_pos h, show r / 2 * 2 = r by omega, sub_eq_add_neg, ← EReal.neg_mul, zero_sub]
  · rw [if_neg (by omega), if_neg h, show r / 2 * 2 = r - 1 by omega, show r - 1 + 1 = r by omega, add_comm]

section Scores

variable (q kv kr : ℕ → ℕ → EReal)

/-- The reference's scores. -/
theorem referenceScores (v138 : FVec Ideal S2x128x40x160 .f32) (v140 : FVec Ideal S2x128x32 .f32) (v154 v155 : FVec Ideal S128x16 .f32) (v157 : FVec Ideal S2x128x40x64 .bf16) (v158 : FVec Ideal S2x128x40x32 .f32) (v159 v160 : FVec Ideal S128x1x16 .f32)
    (h138 : ∀ b t h d, v138 (ix4 b t h d) = kv (128 * b.1 + t.1) (160 * h.1 + d.1))
    (h140 : ∀ b t d, v140 (ix3 b t d) = kr (128 * b.1 + t.1) d.1)
    (h154 : ∀ t i, v154 (ix2 t i) = Ideal.cos (angle t.1 i.1)) (h155 : ∀ t i, v155 (ix2 t i) = Ideal.sin (angle t.1 i.1))
    (h157 : ∀ b t h d, v157 (ix4 b t h d) = q (128 * b.1 + t.1) (96 * h.1 + d.1))
    (h158 : ∀ b t h d, v158 (ix4 b t h d) = q (128 * b.1 + t.1) (96 * h.1 + 64 + d.1))
    (h159 : ∀ t i, v159 (ix3 t 0 i) = Ideal.cos (angle t.1 i.1)) (h160 : ∀ t i, v160 (ix3 t 0 i) = Ideal.sin (angle t.1 i.1))
    (b : Fin 2) (h : Fin 40) (i t : Fin 128) : k0_pay31 v138 v140 v154 v155 v157 v158 v159 v160 (ix4 b h i t) = scoreAt cosAt sinAt q kv kr b.1 h.1 i.1 t.1 := by
  unfold k0_pay31
  pointwise
  simp only [h138, h140, h154, h155, h157, h158, h159, h160, dite_eq_ite]
  unfold scoreAt
  refine congrArg₂ (· + ·) rfl (Finset.sum_congr rfl fun x _ => ?_)
  exact congrArg₂ (· * ·) (rot_pair (kr (128 * b.1 + t.1)) t.1 x.1) (rot_pair (fun r => q (128 * b.1 + i.1) (96 * h.1 + 64 + r)) i.1 x.1)

/-- The reference's attention output. -/
theorem referenceOut (v212 : FVec Ideal S2x128x40x96 .bf16) (v216 v217 : FVec Ideal S2x40x128x128 .f32)
    (h212 : ∀ b t h d, v212 (ix4 b t h d) = kv (128 * b.1 + t.1) (160 * h.1 + 64 + d.1))
    (h216 : ∀ b h i t, v216 (ix4 b h i t) = scoreAt cosAt sinAt q kv kr b.1 h.1 i.1 t.1)
    (h217 : ∀ j, v217 j = ((scoreScale : ℝ) : EReal)) (r : Fin 256) (c : Fin 3840) :
    k0_pay33 v212 v216 v217 (ix2 r c) = outAt cosAt sinAt q kv kr r.1 c.1 := by
  unfold k0_pay33
  pointwise
  simp only [h212, h216, h217, bits_bot]
  have hk : ∀ (x : Fin 128) (y : EReal), Scalar.select (IntOp.cmpi CmpIPredicate.sle (BitVec.ofNat 32 x.1) (BitVec.ofNat 32 (r.1 % 128))) (y * ((scoreScale : ℝ) : EReal)) ⊥
      = (if x.1 ≤ r.1 % 128 then y else ⊥) * ((scoreScale : ℝ) : EReal) := by
    intro x y
    rw [keep_score x.1 (r.1 % 128) x.2 (by omega)]
    split_ifs
    · rfl
    · rw [EReal.bot_mul_coe_of_pos scoreScale_pos]
  simp only [hk]
  unfold outAt headOut
  refine Finset.sum_congr rfl fun x _ => ?_
  rw [mul_comm]
  refine congrArg₂ (· * ·) ?_ rfl
  unfold weightAt
  have he := exp_eq (seen ⟨r.1 % 128, by omega⟩ fun t => scoreAt cosAt sinAt q kv kr (r.1 / 128) (c.1 / 96) (r.1 % 128) t.1)
  refine congrArg₂ (· * ·) (he x) (congrArg (Ideal.div 1) (Finset.sum_congr rfl fun t _ => he t))

end Scores

theorem score_scale : Named.named (F := Ideal) κ "score_scale" (φ := .f32) 0x3DD105EC#32 = ((scoreScale : ℝ) : EReal) := rfl

theorem referenceScale (j : S2x40x128x128.Idx) : k0_pay32 (F := Ideal) j = ((scoreScale : ℝ) : EReal) := score_scale

/-- A scaled product of matrices of codes, at natural numbers. -/
def scaledProduct {a b n : ℕ} (s : EReal) (A : (⟨2, ![a, n]⟩ : Shape).Idx → EReal) (B : (⟨2, ![n, b]⟩ : Shape).Idx → EReal) (sb : (⟨2, ![1, b]⟩ : Shape).Idx → EReal) (r c : ℕ) : EReal :=
  if h : r < a ∧ c < b then (∑ k : Fin n, A (ix2 ⟨r, h.1⟩ k) * B (ix2 k ⟨c, h.2⟩)) * (s * sb (ix2 0 ⟨c, h.2⟩)) else 0

theorem scaledProduct_eq {a b n : ℕ} (s : EReal) (A : (⟨2, ![a, n]⟩ : Shape).Idx → EReal) (B : (⟨2, ![n, b]⟩ : Shape).Idx → EReal) (sb : (⟨2, ![1, b]⟩ : Shape).Idx → EReal)
    (r c : ℕ) (hr : r < a) (hc : c < b) : scaledProduct s A B sb r c = (∑ k : Fin n, A (ix2 ⟨r, hr⟩ k) * B (ix2 k ⟨c, hc⟩)) * (s * sb (ix2 0 ⟨c, hc⟩)) := by
  unfold scaledProduct
  rw [dif_pos ⟨hr, hc⟩]

/-- The reference's queries. -/
theorem referenceQuery (s : FVec Ideal S1x1 .f32) (A : FVec Ideal S256x1024 .fp8e4m3) (B : Vec Ideal S1024x3840 .fp8e4m3) (sb : Vec Ideal S1x3840 .f32)
    (b : Fin 2) (t : Fin 128) (h : Fin 40) (d : Fin 96) : k0_pay20 s A B sb (ix4 b t h d) = scaledProduct (s (ix2 0 0)) A B sb (128 * b.1 + t.1) (96 * h.1 + d.1) := by
  rw [scaledProduct_eq _ _ _ _ _ _ (by omega) (by omega)]
  unfold k0_pay20
  pointwise
  have e1 : b.1 * 128 + t.1 = 128 * b.1 + t.1 := by omega
  have e2 : h.1 * 96 + d.1 = 96 * h.1 + d.1 := by omega
  simp only [e1, e2]

/-- The reference's keys and values. -/
theorem referenceKeyValue (s : FVec Ideal S1x1 .f32) (A : FVec Ideal S256x384 .fp8e4m3) (B : Vec Ideal S384x6400 .fp8e4m3) (sb : Vec Ideal S1x6400 .f32)
    (b : Fin 2) (t : Fin 128) (h : Fin 40) (d : Fin 160) : k0_pay21 s A B sb (ix4 b t h d) = scaledProduct (s (ix2 0 0)) A B sb (128 * b.1 + t.1) (160 * h.1 + d.1) := by
  rw [scaledProduct_eq _ _ _ _ _ _ (by omega) (by omega)]
  unfold k0_pay21
  pointwise
  have e1 : b.1 * 128 + t.1 = 128 * b.1 + t.1 := by omega
  have e2 : h.1 * 160 + d.1 = 160 * h.1 + d.1 := by omega
  simp only [e1, e2]

/-- The reference's rotary key. -/
theorem referenceRotary (s : FVec Ideal S1x1 .f32) (A : FVec Ideal S256x3584 .fp8e4m3) (B : Vec Ideal S3584x416 .fp8e4m3) (sb : Vec Ideal S1x416 .f32)
    (b : Fin 2) (t : Fin 128) (d : Fin 32) : k0_pay22 (k0_pay15 s A B sb) (ix3 b t d) = scaledProduct (s (ix2 0 0)) A B sb (128 * b.1 + t.1) (384 + d.1) := by
  rw [scaledProduct_eq _ _ _ _ _ _ (by omega) (by omega)]
  unfold k0_pay22 k0_pay15
  pointwise
  have e1 : b.1 * 128 + t.1 = 128 * b.1 + t.1 := by omega
  simp only [e1]

/-- The reference's attention output, from the codes of its latents. -/
theorem reference_out (s_x s_cq s_ckv : Vec Ideal S1x1 .f32) (xc : FVec Ideal S256x3584 .fp8e4m3) (cq : FVec Ideal S256x1024 .fp8e4m3) (ckv : FVec Ideal S256x384 .fp8e4m3)
    (w_q_b : Vec Ideal S1024x3840 .fp8e4m3) (s_q_b : Vec Ideal S1x3840 .f32) (w_kv_a : Vec Ideal S3584x416 .fp8e4m3) (s_kv_a : Vec Ideal S1x416 .f32) (w_kv_b : Vec Ideal S384x6400 .fp8e4m3) (s_kv_b : Vec Ideal S1x6400 .f32) (r : Fin 256) (c : Fin 3840) :
    k0_pay33 (k0_pay30 (k0_pay21 (k0_pay4 s_ckv) ckv w_kv_b s_kv_b))
        (k0_pay31 (k0_pay21 (k0_pay4 s_ckv) ckv w_kv_b s_kv_b) (k0_pay22 (k0_pay15 (k0_pay2 s_x) xc w_kv_a s_kv_a)) (k0_pay24 (F := Ideal)) (k0_pay25 (F := Ideal)) (k0_pay26 (k0_pay3 s_cq) cq w_q_b s_q_b) (k0_pay27 (k0_pay3 s_cq) cq w_q_b s_q_b) (k0_pay28 (F := Ideal)) (k0_pay29 (F := Ideal)))
        (k0_pay32 (F := Ideal)) (ix2 r c)
      = outAt cosAt sinAt (scaledProduct (s_cq (ix2 0 0)) cq w_q_b s_q_b) (scaledProduct (s_ckv (ix2 0 0)) ckv w_kv_b s_kv_b)
          (fun r d => scaledProduct (s_x (ix2 0 0)) xc w_kv_a s_kv_a r (384 + d)) r.1 c.1 := by
  have e2 : k0_pay2 s_x = s_x := shapeCast_id _ _
  have e3 : k0_pay3 s_cq = s_cq := shapeCast_id _ _
  have e4 : k0_pay4 s_ckv = s_ckv := shapeCast_id _ _
  rw [e2, e3, e4]
  refine referenceOut _ _ _ _ _ _ ?_ (fun b h i t => ?_) referenceScale r c
  · intro b t h d
    unfold k0_pay30
    pointwise
    rw [referenceKeyValue]
    congr 1
    dsimp only
    omega
  · refine referenceScores _ _ _ _ _ _ _ _ _ _ _ (fun b t h d => referenceKeyValue _ _ _ _ b t h d) (fun b t d => referenceRotary _ _ _ _ b t d) referenceCos referenceSin ?_ ?_ ?_ ?_ b h i t
    · intro b t h d
      unfold k0_pay26
      pointwise
      exact referenceQuery _ _ _ _ b t h _
    · intro b t h d
      unfold k0_pay27
      pointwise
      rw [referenceQuery]
      congr 1
      dsimp only
      omega
    · intro t i
      unfold k0_pay28
      pointwise
      exact referenceCos t i
    · intro t i
      unfold k0_pay29
      pointwise
      exact referenceSin t i

end Cert.Attention

end
-- ==== Proof.AttentionBody.lean ====
module

public import proofs.«01_k».proof.Proof.AttentionTail
public import proofs.«01_k».proof.Proof.AttentionBuffers
public import proofs.«01_k».proof.Proof.AttentionKernel
public import proofs.«01_k».proof.Proof.AttentionAngles
public import proofs.«01_k».proof.Proof.AttentionReference

/-!
# The kernel's output tiles

The projections the kernel's body computes, chunk by chunk, and from them each tile of the attention's output.
-/

@[expose] public section

noncomputable section

namespace Cert.Attention

open Cert.KernelIdeal Cert.KernelIdeal.Gen Cert.KernelIdeal.Arrays Idealize.ShloMosaic Idealize.ShloMosaic.TcCoe Idealize.SL.Sem

/-- A load of some columns, at an index. -/
theorem ld_cols {a b m : ℕ} {e : EltTy} (f : Vec Ideal ⟨2, ![a, b]⟩ e) (o : ℕ) (inb : ∀ d, (![0, o] : Fin 2 → ℕ) d + (⟨2, ![a, m]⟩ : Shape).size d ≤ (⟨2, ![a, b]⟩ : Shape).size d)
    (i : Fin a) (j : Fin m) (hj : o + j.1 < b) : View.ld f (Rect.unit (s := ⟨2, ![a, b]⟩) ![0, o] (⟨2, ![a, m]⟩ : Shape).size inb) (ix2 i j) = f (ix2 i ⟨o + j.1, hj⟩) := by
  refine congrArg f (funext fun d => Fin.ext ?_)
  fin_cases d
  · show 0 + 1 * i.1 = i.1
    omega
  · show o + 1 * j.1 = o + j.1
    omega

/-- A chunk of the queries. -/
theorem queryBlock_apply (s : EReal) (A : Vec Ideal S256x1024 .fp8e4m3) (w : Vec Ideal S1024x3840 .fp8e4m3) (sw : Vec Ideal S1x3840 .f32) (i : Fin 5) (a : Fin 768) (r : Fin 256) :
    queryBlock (F := Ideal) s A (View.ld w (Rect.unit (s := S1024x3840) ![0, 768 * i.1] S1024x768.size (inb_wq i))) (View.ld sw (Rect.unit (s := S1x3840) ![0, 768 * i.1] S1x768.size (inb_sq i))) (ix2 a r)
      = scaledProduct s A w sw r.1 (768 * i.1 + a.1) := by
  have h1 := fun k => ld_cols (a := 1024) (b := 3840) (m := 768) w (768 * i.1) (inb_wq i) k a (by omega)
  have h2 := ld_cols (a := 1) (b := 3840) (m := 768) sw (768 * i.1) (inb_sq i) 0 a (by omega)
  rw [scaledProduct_eq _ _ _ _ _ _ (by omega) (by omega), ← h2]
  simp only [← h1]
  unfold queryBlock
  pointwise

/-- A chunk of the keys and values. -/
theorem keyValueBlock_apply (s : EReal) (A : Vec Ideal S256x384 .fp8e4m3) (w : Vec Ideal S384x6400 .fp8e4m3) (sw : Vec Ideal S1x6400 .f32) (i : Fin 5) (r : Fin 256) (a : Fin 1280) :
    keyValueBlock (F := Ideal) s A (View.ld w (Rect.unit (s := S384x6400) ![0, 1280 * i.1] S384x1280.size (inb_wkv i))) (View.ld sw (Rect.unit (s := S1x6400) ![0, 1280 * i.1] S1x1280.size (inb_skv i))) (ix2 r a)
      = scaledProduct s A w sw r.1 (1280 * i.1 + a.1) := by
  have h1 := fun k => ld_cols (a := 384) (b := 6400) (m := 1280) w (1280 * i.1) (inb_wkv i) k a (by omega)
  have h2 := ld_cols (a := 1) (b := 6400) (m := 1280) sw (1280 * i.1) (inb_skv i) 0 a (by omega)
  rw [scaledProduct_eq _ _ _ _ _ _ (by omega) (by omega), ← h2]
  simp only [← h1]
  unfold keyValueBlock
  pointwise

section Rotary

variable (s : EReal) (w : Vec Ideal S416x3584 .fp8e4m3) (w' : Vec Ideal Cert.ReferenceIdeal.S3584x416 .fp8e4m3) (hw : ∀ (k : Fin 3584) (a : Fin 416), w (ix2 a k) = w' (ix2 k a))
  (A : Vec Ideal S256x3584 .fp8e4m3) (sk : Vec Ideal S1x416 .f32)

theorem rotaryScale (d : Fin 32) : s_kv_a₁ sk (ix2 0 d) = sk (ix2 0 ⟨384 + d.1, by omega⟩) :=
  ld_cols (a := 1) (b := 416) (m := 32) sk 384 inb_S1x416_S1x32_0_384 0 d (by omega)

include hw in
/-- The rotary part of the keys of batch 0. -/
theorem rotaryRows_zero (d : Fin 32) (t : Fin 128) :
    rotaryRows₀ (F := Ideal) s (k0_pay8 w A) (s_kv_a₁ sk) (ix2 d t) = scaledProduct s A w' sk t.1 (384 + d.1) := by
  rw [scaledProduct_eq _ _ _ _ _ _ (by omega) (by omega), ← rotaryScale sk d]
  simp only [← hw]
  unfold rotaryRows₀ k0_pay19 k0_pay8
  pointwise
  exact congrArg (· * _) (Finset.sum_congr rfl fun k _ => mul_comm _ _)

include hw in
/-- The rotary part of the keys of batch 1. -/
theorem rotaryRows_one (d : Fin 32) (t : Fin 128) :
    k0_pay21 (F := Ideal) s (k0_pay8 w A) (s_kv_a₁ sk) (ix2 d t) = scaledProduct s A w' sk (128 + t.1) (384 + d.1) := by
  rw [scaledProduct_eq _ _ _ _ _ _ (by omega) (by omega), ← rotaryScale sk d]
  simp only [← hw]
  unfold k0_pay21 k0_pay19 k0_pay8
  pointwise
  exact congrArg (· * _) (Finset.sum_congr rfl fun k _ => mul_comm _ _)

theorem rotaryTile_apply (v : FVec Ideal S32x128 .f32) (t l : Fin 128) : rotaryTile v (ix2 t l) = rotated v (ix2 ⟨l.1 % 32, by omega⟩ t) := by
  unfold rotaryTile
  generalize rotated v = u
  pointwise
  split_ifs <;> exact congrArg (fun d => u (ix2 d t)) (Fin.ext (by dsimp only; omega))

include hw in
/-- The rotated keys. -/
theorem rotaryKeys_apply (r : Fin 256) (l : Fin 128) :
    rotaryKeys (F := Ideal) s (k0_pay8 w A) (s_kv_a₁ sk) (ix2 r l) = rot cosAt sinAt (fun d => scaledProduct s A w' sk r.1 (384 + d)) (r.1 % 128) (l.1 % 32) := by
  unfold rotaryKeys
  have h0 : ∀ t l : Fin 128, rotaryTile (rotaryRows₀ (F := Ideal) s (k0_pay8 w A) (s_kv_a₁ sk)) (ix2 t l) = rot cosAt sinAt (fun d => scaledProduct s A w' sk t.1 (384 + d)) t.1 (l.1 % 32) := fun t l =>
    (rotaryTile_apply _ t l).trans (rotated_apply cosAt sinAt kernelCos kernelSin _ _ t (fun d => rotaryRows_zero s w w' hw A sk d t) _)
  have h1 : ∀ t l : Fin 128, rotaryTile (k0_pay21 (F := Ideal) s (k0_pay8 w A) (s_kv_a₁ sk)) (ix2 t l) = rot cosAt sinAt (fun d => scaledProduct s A w' sk (128 + t.1) (384 + d)) t.1 (l.1 % 32) := fun t l =>
    (rotaryTile_apply _ t l).trans (rotated_apply cosAt sinAt kernelCos kernelSin _ _ t (fun d => rotaryRows_one s w w' hw A sk d t) _)
  generalize rotaryTile (rotaryRows₀ (F := Ideal) s (k0_pay8 w A) (s_kv_a₁ sk)) = X at *
  generalize rotaryTile (k0_pay21 (F := Ideal) s (k0_pay8 w A) (s_kv_a₁ sk)) = Y at *
  pointwise
  simp only [h0, h1]
  split_ifs with h
  · rw [show r.1 % 128 = r.1 by omega]
  · rw [show r.1 % 128 = r.1 - 128 by omega, show 128 + (r.1 - 128) = r.1 by omega]

end Rotary

section Body

variable (c : Dev nD) (arg0 : Memref sig .tc .smem S1x1 .f32) (harg0 : arg0.IsWhole) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S256x3584 .bf16) (harg4 : arg4.IsWhole) (arg5 : Memref sig .tc .vmem S1x3584 .f32) (harg5 : arg5.IsWhole) (arg6 : Memref sig .tc .vmem S1x1024 .f32) (harg6 : arg6.IsWhole) (arg7 : Memref sig .tc .vmem S1x384 .f32) (harg7 : arg7.IsWhole) (arg8 : Memref sig .tc .vmem S3584x1024 .fp8e4m3) (harg8 : arg8.IsWhole) (arg9 : Memref sig .tc .vmem S1x1024 .f32) (harg9 : arg9.IsWhole) (arg10 : Memref sig .tc .vmem S1024x3840 .fp8e4m3) (harg10 : arg10.IsWhole) (arg11 : Memref sig .tc .vmem S1x3840 .f32) (harg11 : arg11.IsWhole) (arg12 : Memref sig .tc .vmem S416x3584 .fp8e4m3) (harg12 : arg12.IsWhole) (arg13 : Memref sig .tc .vmem S1x416 .f32) (harg13 : arg13.IsWhole) (arg14 : Memref sig .tc .vmem S384x6400 .fp8e4m3) (harg14 : arg14.IsWhole) (arg15 : Memref sig .tc .vmem S1x6400 .f32) (harg15 : arg15.IsWhole) (arg16 : Memref sig .tc .vmem S3840x3584 .fp8e4m3) (harg16 : arg16.IsWhole) (arg17 : Memref sig .tc .vmem S1x3584 .f32) (harg17 : arg17.IsWhole) (arg18 : Memref sig .tc .vmem S256x3584 .bf16) (harg18 : arg18.IsWhole) (arg19 : Memref sig .tc .vmem S256x3584 .fp8e4m3) (harg19 : arg19.IsWhole) (arg20 : Memref sig .tc .vmem S1x1 .f32) (harg20 : arg20.IsWhole) (arg21 : Memref sig .tc .vmem S256x1024 .fp8e4m3) (harg21 : arg21.IsWhole) (arg22 : Memref sig .tc .vmem S1x1 .f32) (harg22 : arg22.IsWhole) (arg23 : Memref sig .tc .vmem S256x384 .fp8e4m3) (harg23 : arg23.IsWhole) (arg24 : Memref sig .tc .vmem S1x1 .f32) (harg24 : arg24.IsWhole) (arg25 : Memref sig .tc .vmem S256x3840 .fp8e4m3) (harg25 : arg25.IsWhole) (arg26 : Memref sig .tc .vmem S1x1 .f32) (harg26 : arg26.IsWhole) (arg27 : Memref sig .tc .vmem S40x256x256 .bf16) (harg27 : arg27.IsWhole) (arg28 : Memref sig .tc .vmem S256x5120 .bf16) (harg28 : arg28.IsWhole) (arg29 : Memref sig .tc .vmem S40x256x256 .bf16) (harg29 : arg29.IsWhole)
variable (s_x : Vec Ideal S1x1 .f32) (s_cq : Vec Ideal S1x1 .f32) (s_ckv : Vec Ideal S1x1 .f32) (s_o : Vec Ideal S1x1 .f32) (x : Vec Ideal S256x3584 .bf16) (g_in : Vec Ideal S1x3584 .f32) (g_q : Vec Ideal S1x1024 .f32) (g_kv : Vec Ideal S1x384 .f32) (w_q_a : Vec Ideal S3584x1024 .fp8e4m3) (s_q_a : Vec Ideal S1x1024 .f32) (w_q_b : Vec Ideal S1024x3840 .fp8e4m3) (s_q_b : Vec Ideal S1x3840 .f32) (w_kv_a : Vec Ideal S416x3584 .fp8e4m3) (s_kv_a : Vec Ideal S1x416 .f32) (w_kv_b : Vec Ideal S384x6400 .fp8e4m3) (s_kv_b : Vec Ideal S1x6400 .f32) (w_o : Vec Ideal S3840x3584 .fp8e4m3) (s_w_o : Vec Ideal S1x3584 .f32)
variable (w' : Vec Ideal Cert.ReferenceIdeal.S3584x416 .fp8e4m3) (hw : ∀ (k : Fin 3584) (a : Fin 416), w_kv_a (ix2 a k) = w' (ix2 k a))

/-- The queries of the body. -/
abbrev bodyQ : ℕ → ℕ → EReal := scaledProduct (s_cq (ix2 0 0)) (Cert.KernelIdeal.Arrays.cqCodes s_x s_cq x g_in g_q w_q_a s_q_a) w_q_b s_q_b

/-- The keys and values of the body. -/
abbrev bodyKV : ℕ → ℕ → EReal := scaledProduct (s_ckv (ix2 0 0)) (Cert.KernelIdeal.Arrays.ckvCodes s_x s_ckv x g_in g_kv w_kv_a s_kv_a) w_kv_b s_kv_b

/-- The rotary keys of the body. -/
abbrev bodyKR (r d : ℕ) : EReal := scaledProduct (s_x (ix2 0 0)) (Cert.KernelIdeal.Arrays.xCodes s_x x g_in) w' s_kv_a r (384 + d)

theorem bodyQueries_apply (i : Fin 5) (a : Fin 768) (r : Fin 256) :
    bodyQueries c arg0 harg0 arg1 harg1 arg4 harg4 arg5 harg5 arg6 harg6 arg8 harg8 arg9 harg9 arg10 harg10 arg11 harg11 arg19 arg21 s_x s_cq x g_in g_q w_q_a s_q_a w_q_b s_q_b i (ix2 a r) = bodyQ s_x s_cq x g_in g_q w_q_a s_q_a w_q_b s_q_b r.1 (768 * i.1 + a.1) := by
  unfold bodyQueries
  rw [r_1_eq, v216_eq, View.readAt_eq_ld, View.readAt_eq_ld, Memref.IsWhole.read_unread, Memref.IsWhole.read_unread]
  exact queryBlock_apply _ _ _ _ i a r

theorem bodyKeyValues_apply (i : Fin 5) (r : Fin 256) (a : Fin 1280) :
    bodyKeyValues c arg0 harg0 arg2 harg2 arg4 harg4 arg5 harg5 arg7 harg7 arg12 harg12 arg13 harg13 arg14 harg14 arg15 harg15 arg19 arg23 s_x s_ckv x g_in g_kv w_kv_a s_kv_a w_kv_b s_kv_b i (ix2 r a) = bodyKV s_x s_ckv x g_in g_kv w_kv_a s_kv_a w_kv_b s_kv_b r.1 (1280 * i.1 + a.1) := by
  unfold bodyKeyValues
  rw [r_2_eq, v2244_eq, View.readAt_eq_ld, View.readAt_eq_ld, Memref.IsWhole.read_unread, Memref.IsWhole.read_unread]
  exact keyValueBlock_apply _ _ _ _ i r a

theorem zeros_stored (y : S40x256x256.Idx) : View.canon (kernelRun0_A.sl.HS0_1 (F := Ideal)) y = 0 := by
  unfold kernelRun0_A.sl.HS0_1
  have hy : y ∈ (Rect.unit (s := S40x256x256) ![0, 0, 0] S40x256x256.size inb_S40x256x256_S40x256x256_0_0_0).set :=
    (Rect.mem_set_unit (inb := inb_S40x256x256_S40x256x256_0_0_0)).2 fun a => by
      have := (y a).2
      fin_cases a <;> exact ⟨Nat.zero_le _, by simpa using this⟩
  obtain ⟨z, rfl⟩ : ∃ z, (Rect.unit (s := S40x256x256) ![0, 0, 0] S40x256x256.size inb_S40x256x256_S40x256x256_0_0_0).emb z = y :=
    (Rect.unit (s := S40x256x256) ![0, 0, 0] S40x256x256.size inb_S40x256x256_S40x256x256_0_0_0).exists_idx_of_mem hy
  refine (View.canon_cons_emb _ _ _ z).trans ?_
  show k0_pay25 (F := Ideal) z = 0
  unfold k0_pay25
  rw [shapeCast_id]
  show Ideal.ofBits .bf16 0x0000#16 = 0
  simp [Ideal.ofBits, Ideal.ieee]

include hw in
/-- A tile of the attention's output. -/
theorem bodyTiles_apply (b : Fin 2) (g : Fin 10) (j : Fin 3) (i k : Fin 128) :
    bodyTiles c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b w_kv_a s_kv_a w_kv_b s_kv_b b g j (ix2 i k)
      = outAt cosAt sinAt (bodyQ s_x s_cq x g_in g_q w_q_a s_q_a w_q_b s_q_b) (bodyKV s_x s_ckv x g_in g_kv w_kv_a s_kv_a w_kv_b s_kv_b) (bodyKR s_x x g_in s_kv_a w') (128 * b.1 + i.1) (128 * (3 * g.1 + j.1) + k.1) := by
  unfold bodyTiles
  have hB := bodyKeyValues_apply c arg0 harg0 arg2 harg2 arg4 harg4 arg5 harg5 arg7 harg7 arg12 harg12 arg13 harg13 arg14 harg14 arg15 harg15 arg19 arg23 s_x s_ckv x g_in g_kv w_kv_a s_kv_a w_kv_b s_kv_b
  have hT := bodyQueries_apply c arg0 harg0 arg1 harg1 arg4 harg4 arg5 harg5 arg6 harg6 arg8 harg8 arg9 harg9 arg10 harg10 arg11 harg11 arg19 arg21 s_x s_cq x g_in g_q w_q_a s_q_a w_q_b s_q_b
  refine outTile_eq _ _ _ _ _ _ _ _ g.1 b.1 b.2 (fun o t l => ?_) (fun o t l => ?_) (fun o t l => ?_) j i k
  · rw [keyPieces_eq, View.readCov_eq_canon']
    refine (keys_apply cosAt sinAt (bodyKV s_x s_ckv x g_in g_kv w_kv_a s_kv_a w_kv_b s_kv_b) (bodyKR s_x x g_in s_kv_a w') _ hB _ (fun r l => ?_) _).trans ?_
    · rw [v211_eq]
      exact rotaryKeys_apply _ _ w' hw _ _ r l
    · show keyAt cosAt sinAt _ _ (128 * b.1 + 1 * t.1) (256 * (2 * g.1 + o.1) + 1 * l.1) = _
      rw [Nat.one_mul, Nat.one_mul]
  · rw [queryPieces_eq, View.readCov_eq_canon']
    refine (queries_apply cosAt sinAt (bodyQ s_x s_cq x g_in g_q w_q_a s_q_a w_q_b s_q_b) _ hT kernelCos kernelSin _ zeros_stored _).trans ?_
    show queryAt cosAt sinAt _ ((slab g o b).1 + 1 * 0) (0 + 1 * t.1) (0 + 1 * l.1) = _
    rw [Nat.mul_zero, Nat.add_zero, Nat.one_mul, Nat.one_mul, Nat.zero_add, Nat.zero_add]
  · rw [valuePieces_eq, View.readCov_eq_canon']
    refine (values_apply (bodyKV s_x s_ckv x g_in g_kv w_kv_a s_kv_a w_kv_b s_kv_b) _ hB _).trans ?_
    show valueAt _ ((slab g o b).1 + 1 * 0) (0 + 1 * t.1) (0 + 1 * l.1) = _
    rw [Nat.mul_zero, Nat.add_zero, Nat.one_mul, Nat.one_mul, Nat.zero_add, Nat.zero_add]

end Body

end Cert.Attention

end
-- ==== Proof.AttentionResults.lean ====
module

public import proofs.«01_k».proof.Proof.AttentionTail
public import proofs.«01_k».proof.Proof.AttentionBuffers
public import proofs.«01_k».proof.Proof.Latents

/-!
# The results of the attention, from its output tiles

If the kernel's output tiles are the tiles of a matrix, the codes the kernel stores are the codes the reference takes
of that matrix, the largest absolute value is the same, and the final sum is the reference's.
-/

@[expose] public section

noncomputable section

namespace Cert.Attention

open Cert.KernelIdeal Cert.KernelIdeal.Gen Cert.KernelIdeal.Arrays Idealize.ShloMosaic Idealize.ShloMosaic.TcCoe Idealize.SL.Sem

/-- The code of an entry. -/
def codeOf (s v : EReal) : EReal :=
  min (Ideal.ofBits .f32 0x43E00000#32) (max (Ideal.ofBits .f32 0xC3E00000#32) (v * Ideal.div (Ideal.ofBits .f32 0x3F800000#32) s))

section Codes

variable (s : Vec Ideal S1x1 .f32) (O : Fin 2 → Fin 10 → Fin 3 → FVec Ideal S128x128 .f32) (E : ℕ → ℕ → EReal)
  (hO : ∀ b g j (i c : Fin 128), O b g j (ix2 i c) = E (128 * b.1 + i.1) (128 * (3 * g.1 + j.1) + c.1))

include hO in
/-- The codes the kernel stores, at an index. -/
theorem codes_apply (y : S256x3840.Idx) : View.canon (codePieces (scalar s) O) y = codeOf (s (ix2 0 0)) (E (y 0).1 (y 1).1) := by
  have h := canon_append (Val := Elt Ideal) (fun y : S256x3840.Idx => codeOf (s (ix2 0 0)) (E (y 0).1 (y 1).1)) (codePieces (scalar s) O) [] ?_ y (.inl ?_)
  · rwa [List.append_nil] at h
  · intro pc hpc x
    simp only [codePieces, List.mem_flatMap, List.mem_map] at hpc
    obtain ⟨b, -, g, -, j, -, rfl⟩ := hpc
    have hx : x = ix2 (x 0) (x 1) := ix2_eta (a := 128) (b := 128) x
    rw [hx]
    show codeOf (s (ix2 0 0)) (O b g j (ix2 (x 0) (x 1))) = codeOf (s (ix2 0 0)) (E (128 * b.1 + 1 * (x 0).1) (128 * (3 * g.1 + j.1) + 1 * (x 1).1))
    refine (congrArg (codeOf _) (hO b g j (x 0) (x 1))).trans ?_
    rw [Nat.one_mul, Nat.one_mul]
  · have h0 : (y 0).1 < 256 := (y 0).2
    have h1 : (y 1).1 < 3840 := (y 1).2
    refine ⟨_, List.mem_flatMap.2 ⟨⟨(y 0).1 / 128, by omega⟩, mem2 _, List.mem_flatMap.2 ⟨⟨(y 1).1 / 384, by omega⟩, mem10 _, List.mem_map.2 ⟨⟨(y 1).1 / 128 % 3, by omega⟩, mem3 _, rfl⟩⟩⟩, ?_⟩
    refine (Rect.mem_set_unit (inb := inb_out _ _ _)).2 fun a => ?_
    fin_cases a
    · show 128 * ((y 0).1 / 128) ≤ (y 0).1 ∧ (y 0).1 < 128 * ((y 0).1 / 128) + 128
      omega
    · show 128 * (3 * ((y 1).1 / 384) + (y 1).1 / 128 % 3) ≤ (y 1).1 ∧ (y 1).1 < 128 * (3 * ((y 1).1 / 384) + (y 1).1 / 128 % 3) + 128
      omega

/-- The codes the reference takes. -/
theorem referenceCodes (v : FVec Ideal Cert.ReferenceIdeal.S2x128x40x96 .bf16) (a p : FVec Ideal Cert.ReferenceIdeal.S2x40x128x128 .f32) (y : S256x3840.Idx) :
    Cert.ReferenceIdeal.Gen.k0_pay34 (Cert.ReferenceIdeal.Gen.k0_pay5 s) v a p y = codeOf (s (ix2 0 0)) (Cert.ReferenceIdeal.Gen.k0_pay33 v a p y) := by
  simp only [Cert.ReferenceIdeal.Gen.k0_pay34, Cert.ReferenceIdeal.Gen.k0_pay5, Cert.Latents.broadcastTo_one, shapeCast_id]
  rfl

end Codes

section Largest

/-- A bound on a tile of running maxima, from a bound on each step. -/
theorem foldr_le {ι : Type} (G : ι → FVec Ideal S128x128 .f32 → FVec Ideal S128x128 .f32) (P : ι → Prop) (y : S128x128.Idx) (z : EReal)
    (hG : ∀ a m, G a m y ≤ z ↔ m y ≤ z ∧ P a) (L : List ι) (m : FVec Ideal S128x128 .f32) :
    L.foldr G m y ≤ z ↔ m y ≤ z ∧ ∀ a ∈ L, P a := by
  induction L with
  | nil => simp
  | cons a L ih =>
    rw [List.foldr_cons, hG, ih, List.forall_mem_cons]
    tauto

theorem tileMax_le (O : Fin 2 → Fin 10 → Fin 3 → FVec Ideal S128x128 .f32) (y : S128x128.Idx) (z : EReal) :
    tileMax O y ≤ z ↔ (0 : EReal) ≤ z ∧ ∀ b g j, max (O b g j y) (-(O b g j y)) ≤ z := by
  unfold tileMax
  rw [foldr_le _ (fun b => ∀ g ∈ ([9, 8, 7, 6, 5, 4, 3, 2, 1, 0] : List (Fin 10)), ∀ j ∈ ([2, 1, 0] : List (Fin 3)), max (O b g j y) (-(O b g j y)) ≤ z) y z fun b m =>
    foldr_le _ (fun g => ∀ j ∈ ([2, 1, 0] : List (Fin 3)), max (O b g j y) (-(O b g j y)) ≤ z) y z (fun g m =>
      foldr_le _ (fun j => max (O b g j y) (-(O b g j y)) ≤ z) y z (fun j m => max_le_iff) _ m) _ m]
  have h0 : (broadcast S128x128 (Scalar.ofBits .f32 0x00000000#32) : FVec Ideal S128x128 .f32) y = (0 : EReal) := by
    show Ideal.ofBits .f32 0x00000000#32 = 0
    simp [Ideal.ofBits, Ideal.ieee]
  rw [h0]
  refine and_congr_right fun _ => ⟨fun h b g j => h b (mem2 b) g (mem10 g) j (mem3 j), fun h b _ g _ j _ => h b g j⟩

theorem abs_nonneg' (v : EReal) : (0 : EReal) ≤ max v (-v) := by
  rcases le_total 0 v with h | h
  · exact le_max_of_le_left h
  · refine le_max_of_le_right ?_
    have := EReal.neg_le_neg_iff.2 h
    rwa [neg_zero] at this

theorem ofBits_bot : Ideal.ofBits .f32 0xFF800000#32 = (⊥ : EReal) := by
  simp [Ideal.ofBits, Ideal.ieee]

/-- The largest absolute value the kernel stores is the reference's. -/
theorem largest_eq (O : Fin 2 → Fin 10 → Fin 3 → FVec Ideal S128x128 .f32) (v : FVec Ideal Cert.ReferenceIdeal.S2x128x40x96 .bf16) (a p : FVec Ideal Cert.ReferenceIdeal.S2x40x128x128 .f32)
    (E : ℕ → ℕ → EReal) (hO : ∀ b g j (i c : Fin 128), O b g j (ix2 i c) = E (128 * b.1 + i.1) (128 * (3 * g.1 + j.1) + c.1))
    (hE : ∀ (r : Fin 256) (c : Fin 3840), Cert.ReferenceIdeal.Gen.k0_pay33 v a p (ix2 r c) = E r.1 c.1) :
    largestOf (tileMax O) = Cert.ReferenceIdeal.Gen.k0_pay35 v a p := by
  have hl : ∀ z : EReal, largestOf (tileMax O) (ix2 0 0) ≤ z ↔ ∀ i c : Fin 128, tileMax O (ix2 i c) ≤ z := by
    intro z
    unfold largestOf
    pointwise
    simp only [ofBits_bot, Finset.fold_max_le]
    simp
  have hr : ∀ z : EReal, Cert.ReferenceIdeal.Gen.k0_pay35 v a p (ix2 0 0) ≤ z ↔ ∀ (r : Fin 256) (c : Fin 3840), max (E r.1 c.1) (-(E r.1 c.1)) ≤ z := by
    intro z
    unfold Cert.ReferenceIdeal.Gen.k0_pay35
    pointwise
    simp only [ofBits_bot, Finset.fold_max_le]
    simp [hE]
    exact forall₂_congr fun r c => max_le_iff
  have he : largestOf (tileMax O) (ix2 0 0) = Cert.ReferenceIdeal.Gen.k0_pay35 v a p (ix2 0 0) := by
    refine eq_of_forall_ge_iff fun z => ?_
    rw [hl, hr]
    simp only [tileMax_le, hO]
    constructor
    · intro h r c
      have := (h ⟨r.1 % 128, by omega⟩ ⟨c.1 % 128, by omega⟩).2 ⟨r.1 / 128, by omega⟩ ⟨c.1 / 384, by omega⟩ ⟨c.1 / 128 % 3, by omega⟩
      dsimp only at this
      rwa [show 128 * (r.1 / 128) + r.1 % 128 = r.1 by omega, show 128 * (3 * (c.1 / 384) + c.1 / 128 % 3) + c.1 % 128 = c.1 by omega] at this
    · intro h i c
      refine ⟨(abs_nonneg' _).trans (h 0 0), fun b g j => ?_⟩
      exact h ⟨128 * b.1 + i.1, by omega⟩ ⟨128 * (3 * g.1 + j.1) + c.1, by omega⟩
  funext y
  rw [ix2_eta (a := 1) (b := 1) y, Subsingleton.elim (α := Fin 1) (y 0) 0, Subsingleton.elim (α := Fin 1) (y 1) 0]
  exact he

end Largest

section Sum

variable (s : Vec Ideal S1x1 .f32) (O : FVec Ideal S256x3840 .fp8e4m3) (w : Vec Ideal S3840x3584 .fp8e4m3) (sw : Vec Ideal S1x3584 .f32) (x : Vec Ideal S256x3584 .bf16)

theorem mem7 (g : Fin 7) : g ∈ ([6, 5, 4, 3, 2, 1, 0] : List (Fin 7)) := by revert g; decide

/-- The final sum at an index. -/
def sumAt (y : S256x3584.Idx) : EReal :=
  x y + (∑ k : Fin 3840, O (ix2 (y 0) k) * w (ix2 k (y 1))) * (s (ix2 0 0) * sw (ix2 0 (y 1)))

theorem sum_apply (y : S256x3584.Idx) :
    View.canon (sumPieces (scalar s) O
      (fun n => View.ld w (Rect.unit (s := S3840x3584) ![0, 512 * n.1] S3840x512.size (inb_wo n)))
      (fun n => View.ld sw (Rect.unit (s := S1x3584) ![0, 512 * n.1] S1x512.size (inb_swo n)))
      (fun n => View.ld x (Rect.unit (s := S256x3584) ![0, 512 * n.1] S256x512.size (inb_x n)))) y = sumAt s O w sw x y := by
  have h := canon_append (Val := Elt Ideal) (sumAt s O w sw x) (sumPieces (scalar s) O
      (fun n => View.ld w (Rect.unit (s := S3840x3584) ![0, 512 * n.1] S3840x512.size (inb_wo n)))
      (fun n => View.ld sw (Rect.unit (s := S1x3584) ![0, 512 * n.1] S1x512.size (inb_swo n)))
      (fun n => View.ld x (Rect.unit (s := S256x3584) ![0, 512 * n.1] S256x512.size (inb_x n)))) [] ?_ y (.inl ?_)
  · rwa [List.append_nil] at h
  · intro pc hpc z
    simp only [sumPieces, List.mem_map] at hpc
    obtain ⟨n, -, rfl⟩ := hpc
    have hz : z = ix2 (z 0) (z 1) := ix2_eta (a := 256) (b := 512) z
    rw [hz]
    have hb : 512 * n.1 + (z 1).1 < 3584 := by have := (z 1).2; change _ < 512 at this; omega
    have he : (Rect.unit (s := S256x3584) ![0, 512 * n.1] S256x512.size (inb_x n)).emb (ix2 (z 0) (z 1)) = ix2 (z 0) ⟨512 * n.1 + (z 1).1, hb⟩ := by
      funext d
      refine Fin.ext ?_
      fin_cases d
      · show 0 + 1 * (z 0).1 = (z 0).1
        omega
      · show 512 * n.1 + 1 * (z 1).1 = 512 * n.1 + (z 1).1
        omega
    dsimp only
    refine Eq.trans ?_ (congrArg (sumAt s O w sw x) he).symm
    generalize z 0 = i at *
    generalize z 1 = j at *
    unfold k0_pay1046 sumAt
    pointwise
  · have h0 : (y 0).1 < 256 := (y 0).2
    have h1 : (y 1).1 < 3584 := (y 1).2
    refine ⟨_, List.mem_map.2 ⟨⟨(y 1).1 / 512, by omega⟩, mem7 _, rfl⟩, ?_⟩
    refine (Rect.mem_set_unit (inb := inb_x _)).2 fun a => ?_
    fin_cases a
    · show 0 ≤ (y 0).1 ∧ (y 0).1 < 0 + 256
      omega
    · show 512 * ((y 1).1 / 512) ≤ (y 1).1 ∧ (y 1).1 < 512 * ((y 1).1 / 512) + 512
      omega

/-- The reference's final sum. -/
theorem referenceSum : Cert.ReferenceIdeal.Gen.k0_pay1 (Cert.ReferenceIdeal.Gen.k0_pay5 s) (Cert.ReferenceIdeal.Gen.k0_pay6 x) O w sw = sumAt s O w sw x := by
  funext y
  rw [ix2_eta (a := 256) (b := 3584) y]
  simp only [Cert.ReferenceIdeal.Gen.k0_pay1, Cert.ReferenceIdeal.Gen.k0_pay5, Cert.ReferenceIdeal.Gen.k0_pay6, Cert.Latents.broadcastTo_one, shapeCast_id]
  unfold sumAt
  pointwise

end Sum

end Cert.Attention

end
-- ==== Proof.AttentionEquations.lean ====
module

public import proofs.«01_k».proof.Proof.AttentionBody
public import proofs.«01_k».proof.Proof.AttentionResults

/-!
# The attention's results of the kernel are the reference's

What the kernel's body stores in its first, eighth and ninth result, from the arrays it reads.
-/

@[expose] public section

noncomputable section

namespace Cert.Attention

open Cert.KernelIdeal Cert.KernelIdeal.Gen Cert.KernelIdeal.Arrays Idealize.ShloMosaic Idealize.ShloMosaic.TcCoe Idealize.SL.Sem

/-- A load of the whole of the eighth result reads what was stored. -/
theorem readCov_whole {sp : Space} (v : View sig .tc sp S256x3840 .fp8e4m3) (L : List (View.Piece (Elt Ideal) S256x3840 .fp8e4m3)) :
    View.readCov v L (Rect.unit (s := S256x3840) ![0, 0] S256x3840.size inb_S256x3840_S256x3840_0_0).toLoadRect = View.canon L := by
  rw [View.readCov_eq_canon']
  funext y
  refine congrArg (View.canon L) (funext fun a => Fin.ext ?_)
  fin_cases a
  · show 0 + 1 * (y 0).1 = (y 0).1
    omega
  · show 0 + 1 * (y 1).1 = (y 1).1
    omega

/-- The transposed weights, at an index. -/
theorem transposed (w : Vec Ideal Cert.ReferenceIdeal.S3584x416 .fp8e4m3) (k : Fin 3584) (a : Fin 416) :
    transpose S416x3584 [1, 0] w transposes_S3584x416_S416x3584_1_0 (ix2 a k) = w (ix2 k a) := by
  pointwise

section Body

variable (c : Dev nD) (arg0 : Memref sig .tc .smem S1x1 .f32) (harg0 : arg0.IsWhole) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S256x3584 .bf16) (harg4 : arg4.IsWhole) (arg5 : Memref sig .tc .vmem S1x3584 .f32) (harg5 : arg5.IsWhole) (arg6 : Memref sig .tc .vmem S1x1024 .f32) (harg6 : arg6.IsWhole) (arg7 : Memref sig .tc .vmem S1x384 .f32) (harg7 : arg7.IsWhole) (arg8 : Memref sig .tc .vmem S3584x1024 .fp8e4m3) (harg8 : arg8.IsWhole) (arg9 : Memref sig .tc .vmem S1x1024 .f32) (harg9 : arg9.IsWhole) (arg10 : Memref sig .tc .vmem S1024x3840 .fp8e4m3) (harg10 : arg10.IsWhole) (arg11 : Memref sig .tc .vmem S1x3840 .f32) (harg11 : arg11.IsWhole) (arg12 : Memref sig .tc .vmem S416x3584 .fp8e4m3) (harg12 : arg12.IsWhole) (arg13 : Memref sig .tc .vmem S1x416 .f32) (harg13 : arg13.IsWhole) (arg14 : Memref sig .tc .vmem S384x6400 .fp8e4m3) (harg14 : arg14.IsWhole) (arg15 : Memref sig .tc .vmem S1x6400 .f32) (harg15 : arg15.IsWhole) (arg16 : Memref sig .tc .vmem S3840x3584 .fp8e4m3) (harg16 : arg16.IsWhole) (arg17 : Memref sig .tc .vmem S1x3584 .f32) (harg17 : arg17.IsWhole) (arg18 : Memref sig .tc .vmem S256x3584 .bf16) (harg18 : arg18.IsWhole) (arg19 : Memref sig .tc .vmem S256x3584 .fp8e4m3) (harg19 : arg19.IsWhole) (arg20 : Memref sig .tc .vmem S1x1 .f32) (harg20 : arg20.IsWhole) (arg21 : Memref sig .tc .vmem S256x1024 .fp8e4m3) (harg21 : arg21.IsWhole) (arg22 : Memref sig .tc .vmem S1x1 .f32) (harg22 : arg22.IsWhole) (arg23 : Memref sig .tc .vmem S256x384 .fp8e4m3) (harg23 : arg23.IsWhole) (arg24 : Memref sig .tc .vmem S1x1 .f32) (harg24 : arg24.IsWhole) (arg25 : Memref sig .tc .vmem S256x3840 .fp8e4m3) (harg25 : arg25.IsWhole) (arg26 : Memref sig .tc .vmem S1x1 .f32) (harg26 : arg26.IsWhole) (arg27 : Memref sig .tc .vmem S40x256x256 .bf16) (harg27 : arg27.IsWhole) (arg28 : Memref sig .tc .vmem S256x5120 .bf16) (harg28 : arg28.IsWhole) (arg29 : Memref sig .tc .vmem S40x256x256 .bf16) (harg29 : arg29.IsWhole)
variable (s_x : Vec Ideal S1x1 .f32) (s_cq : Vec Ideal S1x1 .f32) (s_ckv : Vec Ideal S1x1 .f32) (s_o : Vec Ideal S1x1 .f32) (x : Vec Ideal S256x3584 .bf16) (g_in : Vec Ideal S1x3584 .f32) (g_q : Vec Ideal S1x1024 .f32) (g_kv : Vec Ideal S1x384 .f32) (w_q_a : Vec Ideal S3584x1024 .fp8e4m3) (s_q_a : Vec Ideal S1x1024 .f32) (w_q_b : Vec Ideal S1024x3840 .fp8e4m3) (s_q_b : Vec Ideal S1x3840 .f32) (w_kv_a : Vec Ideal Cert.ReferenceIdeal.S3584x416 .fp8e4m3) (s_kv_a : Vec Ideal S1x416 .f32) (w_kv_b : Vec Ideal S384x6400 .fp8e4m3) (s_kv_b : Vec Ideal S1x6400 .f32) (w_o : Vec Ideal S3840x3584 .fp8e4m3) (s_w_o : Vec Ideal S1x3584 .f32)

/-- The attention's output of the reference, at a row and a column. -/
theorem reference_apply (r : Fin 256) (k : Fin 3840) :
    Cert.ReferenceIdeal.Gen.k0_pay33 (Cert.ReferenceIdeal.Arrays.values x g_in g_kv w_kv_a s_kv_a w_kv_b s_kv_b s_x s_ckv) (Cert.ReferenceIdeal.Arrays.scores x g_in g_q g_kv w_q_a s_q_a w_q_b s_q_b w_kv_a s_kv_a w_kv_b s_kv_b s_x s_cq s_ckv) (Cert.ReferenceIdeal.Gen.k0_pay32 (F := Ideal)) (ix2 r k)
      = (outAt cosAt sinAt (bodyQ s_x s_cq x g_in g_q w_q_a s_q_a w_q_b s_q_b) (bodyKV s_x s_ckv x g_in g_kv (transpose S416x3584 [1, 0] w_kv_a transposes_S3584x416_S416x3584_1_0) s_kv_a w_kv_b s_kv_b) (bodyKR s_x x g_in s_kv_a w_kv_a)) r.1 k.1 := by
  refine (reference_out s_x s_cq s_ckv _ _ _ w_q_b s_q_b w_kv_a s_kv_a w_kv_b s_kv_b r k).trans ?_
  unfold bodyQ bodyKV bodyKR Cert.ReferenceIdeal.Arrays.cqCodes Cert.ReferenceIdeal.Arrays.ckvCodes
  rw [Latents.xCodes_eq, Latents.cqCodes_eq, Latents.ckvCodes_eq]

/-- The attention's output of the kernel, at a tile. -/
theorem tiles_apply (b : Fin 2) (g : Fin 10) (j : Fin 3) (i k : Fin 128) :
    bodyTiles c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b (transpose S416x3584 [1, 0] w_kv_a transposes_S3584x416_S416x3584_1_0) s_kv_a w_kv_b s_kv_b b g j (ix2 i k)
      = (outAt cosAt sinAt (bodyQ s_x s_cq x g_in g_q w_q_a s_q_a w_q_b s_q_b) (bodyKV s_x s_ckv x g_in g_kv (transpose S416x3584 [1, 0] w_kv_a transposes_S3584x416_S416x3584_1_0) s_kv_a w_kv_b s_kv_b) (bodyKR s_x x g_in s_kv_a w_kv_a)) (128 * b.1 + i.1) (128 * (3 * g.1 + j.1) + k.1) :=
  bodyTiles_apply c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b (transpose S416x3584 [1, 0] w_kv_a transposes_S3584x416_S416x3584_1_0) s_kv_a w_kv_b s_kv_b w_kv_a (fun k a => transposed w_kv_a k a) b g j i k

/-- The codes of the attention's output that the kernel stores are the reference's. -/
theorem codes_eq : View.canon (codePieces (scalar s_o) (bodyTiles c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b (transpose S416x3584 [1, 0] w_kv_a transposes_S3584x416_S416x3584_1_0) s_kv_a w_kv_b s_kv_b))
    = Cert.ReferenceIdeal.Gen.k0_pay34 (Cert.ReferenceIdeal.Gen.k0_pay5 s_o) (Cert.ReferenceIdeal.Arrays.values x g_in g_kv w_kv_a s_kv_a w_kv_b s_kv_b s_x s_ckv) (Cert.ReferenceIdeal.Arrays.scores x g_in g_q g_kv w_q_a s_q_a w_q_b s_q_b w_kv_a s_kv_a w_kv_b s_kv_b s_x s_cq s_ckv) (Cert.ReferenceIdeal.Gen.k0_pay32 (F := Ideal)) := by
  funext y
  refine (codes_apply s_o _ _ (tiles_apply c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b w_kv_a s_kv_a w_kv_b s_kv_b) y).trans ?_
  rw [referenceCodes]
  refine congrArg (codeOf _) ?_
  rw [ix2_eta (a := 256) (b := 3840) y]
  exact (reference_apply s_x s_cq s_ckv x g_in g_q g_kv w_q_a s_q_a w_q_b s_q_b w_kv_a s_kv_a w_kv_b s_kv_b (y 0) (y 1)).symm

/-- The codes of the attention's output, as the body leaves them. -/
theorem attention25 : out0_A_25 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b (transpose S416x3584 [1, 0] w_kv_a transposes_S3584x416_S416x3584_1_0) s_kv_a w_kv_b s_kv_b w_o s_w_o
    = Cert.ReferenceIdeal.Gen.k0_pay34 (Cert.ReferenceIdeal.Gen.k0_pay5 s_o) (Cert.ReferenceIdeal.Arrays.values x g_in g_kv w_kv_a s_kv_a w_kv_b s_kv_b s_x s_ckv) (Cert.ReferenceIdeal.Arrays.scores x g_in g_q g_kv w_q_a s_q_a w_q_b s_q_b w_kv_a s_kv_a w_kv_b s_kv_b s_x s_cq s_ckv) (Cert.ReferenceIdeal.Gen.k0_pay32 (F := Ideal)) := by
  rw [out25_eq]
  exact codes_eq c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv s_o x g_in g_q g_kv w_q_a s_q_a w_q_b s_q_b w_kv_a s_kv_a w_kv_b s_kv_b

/-- The largest absolute value of the attention's output, as the body leaves it. -/
theorem attention26 : out0_A_26 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b (transpose S416x3584 [1, 0] w_kv_a transposes_S3584x416_S416x3584_1_0) s_kv_a w_kv_b s_kv_b w_o s_w_o
    = Cert.ReferenceIdeal.Gen.k0_pay35 (Cert.ReferenceIdeal.Arrays.values x g_in g_kv w_kv_a s_kv_a w_kv_b s_kv_b s_x s_ckv) (Cert.ReferenceIdeal.Arrays.scores x g_in g_q g_kv w_q_a s_q_a w_q_b s_q_b w_kv_a s_kv_a w_kv_b s_kv_b s_x s_cq s_ckv) (Cert.ReferenceIdeal.Gen.k0_pay32 (F := Ideal)) := by
  rw [out26_eq]
  exact largest_eq _ _ _ _ _ (tiles_apply c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv x g_in g_q g_kv w_q_a s_q_a w_q_b s_q_b w_kv_a s_kv_a w_kv_b s_kv_b) (reference_apply s_x s_cq s_ckv x g_in g_q g_kv w_q_a s_q_a w_q_b s_q_b w_kv_a s_kv_a w_kv_b s_kv_b)

/-- The final sum, as the body leaves it. -/
theorem attention18 : out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 s_x s_cq s_ckv s_o x g_in g_q g_kv w_q_a s_q_a w_q_b s_q_b (transpose S416x3584 [1, 0] w_kv_a transposes_S3584x416_S416x3584_1_0) s_kv_a w_kv_b s_kv_b w_o s_w_o
    = Cert.ReferenceIdeal.Gen.k0_pay1 (Cert.ReferenceIdeal.Gen.k0_pay5 s_o) (Cert.ReferenceIdeal.Gen.k0_pay6 x) (Cert.ReferenceIdeal.Gen.k0_pay34 (Cert.ReferenceIdeal.Gen.k0_pay5 s_o) (Cert.ReferenceIdeal.Arrays.values x g_in g_kv w_kv_a s_kv_a w_kv_b s_kv_b s_x s_ckv) (Cert.ReferenceIdeal.Arrays.scores x g_in g_q g_kv w_q_a s_q_a w_q_b s_q_b w_kv_a s_kv_a w_kv_b s_kv_b s_x s_cq s_ckv) (Cert.ReferenceIdeal.Gen.k0_pay32 (F := Ideal))) w_o s_w_o := by
  rw [out18_eq, codePieces_eq, r_3_eq, readCov_whole]
  refine Eq.trans (congrArg (fun O : FVec Ideal S256x3840 .fp8e4m3 => View.canon (sumPieces (scalar s_o) O _ _ _)) ((shapeCast_id _ _).trans (codes_eq c arg0 harg0 arg1 harg1 arg2 harg2 arg4 harg4 arg5 harg5 arg6 harg6 arg7 harg7 arg8 harg8 arg9 harg9 arg10 harg10 arg11 harg11 arg12 harg12 arg13 harg13 arg14 harg14 arg15 harg15 arg19 arg21 arg23 arg27 arg28 arg29 s_x s_cq s_ckv s_o x g_in g_q g_kv w_q_a s_q_a w_q_b s_q_b w_kv_a s_kv_a w_kv_b s_kv_b))) ?_
  rw [referenceSum]
  exact funext fun y => sum_apply s_o _ w_o s_w_o x y

end Body

end Cert.Attention

end
-- ==== Proof.AttentionArrays.lean ====
module

public import proofs.«01_k».proof.Proof.AttentionEquations

/-!
# The kernel's arrays of the attention's results after a run

The first, the eighth and the ninth result array of the kernel, as the reference's functions of the arguments.
-/

@[expose] public section

noncomputable section

namespace Cert.KernelIdeal.Arrays

open Cert.KernelIdeal Cert.KernelIdeal.Gen Idealize.ShloMosaic Idealize.ShloMosaic.TcCoe Idealize.SL.Sem

variable (m : (ℓ : Loc nD τ sig) → Buf (Elt Ideal) ℓ)

/-- The array of the codes of the attention's output after a run. -/
theorem array25 (c : Dev nD) : (dats m 0 c).arrAt 25 cfg0.N = Cert.ReferenceIdeal.Gen.k0_pay34 (Cert.ReferenceIdeal.Gen.k0_pay5 (s_o m c)) (Cert.ReferenceIdeal.Arrays.values (x m c) (g_in m c) (g_kv m c) (m ((c : Thread nD τ).loc main_arg8)) (s_kv_a m c) (w_kv_b m c) (s_kv_b m c) (s_x m c) (s_ckv m c)) (Cert.ReferenceIdeal.Arrays.scores (x m c) (g_in m c) (g_q m c) (g_kv m c) (w_q_a m c) (s_q_a m c) (w_q_b m c) (s_q_b m c) (m ((c : Thread nD τ).loc main_arg8)) (s_kv_a m c) (w_kv_b m c) (s_kv_b m c) (s_x m c) (s_cq m c) (s_ckv m c)) (Cert.ReferenceIdeal.Gen.k0_pay32 (F := Ideal)) := by
  have hz : (fun a => (win0_25.index t₀) a * main_v14_7.ty.shape.size a) = fun _ => 0 := funext fun a => Nat.zero_mul _
  refine (Memref.read_access_unit_zero (Elt Ideal) main_v14_7 hz (fun a => by fin_cases a <;> decide) _).symm.trans ?_
  refine (Value.blocks25 m c t₀ (by decide)).trans ?_
  rw [Value.flushed25_A]
  refine Eq.trans ?_ (Attention.attention25 c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (m ((c : Thread nD τ).loc main_arg8)) (s_kv_a m c) (w_kv_b m c) (s_kv_b m c) (w_o m c) (s_w_o m c))
  have h12 : transpose S416x3584 [1, 0] (m ((c : Thread nD τ).loc main_arg8)) transposes_S3584x416_S416x3584_1_0 = iblk m c 12 t₀ := (block12 m c).symm
  rw [← block0, ← block1, ← block2, ← block3, ← block4, ← block5, ← block6, ← block7, ← block8, ← block9, ← block10, ← block11, h12, ← block13, ← block14, ← block15, ← block16, ← block17]
  rfl

/-- The array of the largest absolute value of the attention's output after a run. -/
theorem array26 (c : Dev nD) : (dats m 0 c).arrAt 26 cfg0.N = Cert.ReferenceIdeal.Gen.k0_pay35 (Cert.ReferenceIdeal.Arrays.values (x m c) (g_in m c) (g_kv m c) (m ((c : Thread nD τ).loc main_arg8)) (s_kv_a m c) (w_kv_b m c) (s_kv_b m c) (s_x m c) (s_ckv m c)) (Cert.ReferenceIdeal.Arrays.scores (x m c) (g_in m c) (g_q m c) (g_kv m c) (w_q_a m c) (s_q_a m c) (w_q_b m c) (s_q_b m c) (m ((c : Thread nD τ).loc main_arg8)) (s_kv_a m c) (w_kv_b m c) (s_kv_b m c) (s_x m c) (s_cq m c) (s_ckv m c)) (Cert.ReferenceIdeal.Gen.k0_pay32 (F := Ideal)) := by
  have hz : (fun a => (win0_26.index t₀) a * main_v14_8.ty.shape.size a) = fun _ => 0 := funext fun a => Nat.zero_mul _
  refine (Memref.read_access_unit_zero (Elt Ideal) main_v14_8 hz (fun a => by fin_cases a <;> decide) _).symm.trans ?_
  refine (Value.blocks26 m c t₀ (by decide)).trans ?_
  rw [Value.flushed26_A]
  refine Eq.trans ?_ (Attention.attention26 c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (m ((c : Thread nD τ).loc main_arg8)) (s_kv_a m c) (w_kv_b m c) (s_kv_b m c) (w_o m c) (s_w_o m c))
  have h12 : transpose S416x3584 [1, 0] (m ((c : Thread nD τ).loc main_arg8)) transposes_S3584x416_S416x3584_1_0 = iblk m c 12 t₀ := (block12 m c).symm
  rw [← block0, ← block1, ← block2, ← block3, ← block4, ← block5, ← block6, ← block7, ← block8, ← block9, ← block10, ← block11, h12, ← block13, ← block14, ← block15, ← block16, ← block17]
  rfl

/-- The array of the final sum after a run. -/
theorem array18 (c : Dev nD) : (dats m 0 c).arrAt 18 cfg0.N = Cert.ReferenceIdeal.Gen.k0_pay1 (Cert.ReferenceIdeal.Gen.k0_pay5 (s_o m c)) (Cert.ReferenceIdeal.Gen.k0_pay6 (x m c)) (Cert.ReferenceIdeal.Gen.k0_pay34 (Cert.ReferenceIdeal.Gen.k0_pay5 (s_o m c)) (Cert.ReferenceIdeal.Arrays.values (x m c) (g_in m c) (g_kv m c) (m ((c : Thread nD τ).loc main_arg8)) (s_kv_a m c) (w_kv_b m c) (s_kv_b m c) (s_x m c) (s_ckv m c)) (Cert.ReferenceIdeal.Arrays.scores (x m c) (g_in m c) (g_q m c) (g_kv m c) (w_q_a m c) (s_q_a m c) (w_q_b m c) (s_q_b m c) (m ((c : Thread nD τ).loc main_arg8)) (s_kv_a m c) (w_kv_b m c) (s_kv_b m c) (s_x m c) (s_cq m c) (s_ckv m c)) (Cert.ReferenceIdeal.Gen.k0_pay32 (F := Ideal))) (w_o m c) (s_w_o m c) := by
  have hz : (fun a => (win0_18.index t₀) a * main_v14_0.ty.shape.size a) = fun _ => 0 := funext fun a => Nat.zero_mul _
  refine (Memref.read_access_unit_zero (Elt Ideal) main_v14_0 hz (fun a => by fin_cases a <;> decide) _).symm.trans ?_
  refine (Value.blocks18 m c t₀ (by decide)).trans ?_
  rw [Value.flushed18_A]
  refine Eq.trans ?_ (Attention.attention18 c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (ms0_12 t₀) (hs0_12 t₀) (ms0_13 t₀) (hs0_13 t₀) (ms0_14 t₀) (hs0_14 t₀) (ms0_15 t₀) (hs0_15 t₀) (ms0_16 t₀) (hs0_16 t₀) (ms0_17 t₀) (hs0_17 t₀) (ms0_18 t₀) (hs0_18 t₀) (ms0_19 t₀) (hs0_19 t₀) (ms0_20 t₀) (hs0_20 t₀) (ms0_21 t₀) (hs0_21 t₀) (ms0_22 t₀) (hs0_22 t₀) (ms0_23 t₀) (hs0_23 t₀) (ms0_24 t₀) (hs0_24 t₀) (ms0_25 t₀) (hs0_25 t₀) (ms0_26 t₀) (hs0_26 t₀) scM0_0 (Memref.isWhole_whole _) scM0_1 (Memref.isWhole_whole _) scM0_2 (Memref.isWhole_whole _) (s_x m c) (s_cq m c) (s_ckv m c) (s_o m c) (x m c) (g_in m c) (g_q m c) (g_kv m c) (w_q_a m c) (s_q_a m c) (w_q_b m c) (s_q_b m c) (m ((c : Thread nD τ).loc main_arg8)) (s_kv_a m c) (w_kv_b m c) (s_kv_b m c) (w_o m c) (s_w_o m c))
  have h12 : transpose S416x3584 [1, 0] (m ((c : Thread nD τ).loc main_arg8)) transposes_S3584x416_S416x3584_1_0 = iblk m c 12 t₀ := (block12 m c).symm
  rw [← block0, ← block1, ← block2, ← block3, ← block4, ← block5, ← block6, ← block7, ← block8, ← block9, ← block10, ← block11, h12, ← block13, ← block14, ← block15, ← block16, ← block17]
  rfl

end Cert.KernelIdeal.Arrays

end
-- ==== Proof.Results.lean ====
module

public import proofs.«01_k».proof.Defs
public import proofs.«01_k».proof.Proof.Latents
public import proofs.«01_k».proof.Proof.AttentionArrays

/-!
# The results of the two programs agree

From starting memories whose arguments agree, each claimed result array of the reference equals the kernel's.
-/

@[expose] public section

noncomputable section

namespace Cert.Results

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The arguments of the two programs agree on device `c`. -/
def Agree : Prop :=
  m' ((c : Thread Cert.ReferenceIdeal.nD Cert.ReferenceIdeal.τ).loc Cert.ReferenceIdeal.main_arg0) = m ((c : Thread Cert.KernelIdeal.nD Cert.KernelIdeal.τ).loc Cert.KernelIdeal.main_arg0)
  ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
  ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
  ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
  ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
  ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)
  ∧ m' ((c : Thread Cert.ReferenceIdeal.nD Cert.ReferenceIdeal.τ).loc Cert.ReferenceIdeal.main_arg6) = m ((c : Thread Cert.KernelIdeal.nD Cert.KernelIdeal.τ).loc Cert.KernelIdeal.main_arg6)
  ∧ m' ((c : Thread Cert.ReferenceIdeal.nD Cert.ReferenceIdeal.τ).loc Cert.ReferenceIdeal.main_arg7) = m ((c : Thread Cert.KernelIdeal.nD Cert.KernelIdeal.τ).loc Cert.KernelIdeal.main_arg7)
  ∧ m' ((c : Thread Cert.ReferenceIdeal.nD Cert.ReferenceIdeal.τ).loc Cert.ReferenceIdeal.main_arg8) = m ((c : Thread Cert.KernelIdeal.nD Cert.KernelIdeal.τ).loc Cert.KernelIdeal.main_arg8)
  ∧ m' ((c : Thread Cert.ReferenceIdeal.nD Cert.ReferenceIdeal.τ).loc Cert.ReferenceIdeal.main_arg9) = m ((c : Thread Cert.KernelIdeal.nD Cert.KernelIdeal.τ).loc Cert.KernelIdeal.main_arg9)
  ∧ m' ((c : Thread Cert.ReferenceIdeal.nD Cert.ReferenceIdeal.τ).loc Cert.ReferenceIdeal.main_arg10) = m ((c : Thread Cert.KernelIdeal.nD Cert.KernelIdeal.τ).loc Cert.KernelIdeal.main_arg10)
  ∧ m' ((c : Thread Cert.ReferenceIdeal.nD Cert.ReferenceIdeal.τ).loc Cert.ReferenceIdeal.main_arg11) = m ((c : Thread Cert.KernelIdeal.nD Cert.KernelIdeal.τ).loc Cert.KernelIdeal.main_arg11)
  ∧ m' ((c : Thread Cert.ReferenceIdeal.nD Cert.ReferenceIdeal.τ).loc Cert.ReferenceIdeal.main_arg12) = m ((c : Thread Cert.KernelIdeal.nD Cert.KernelIdeal.τ).loc Cert.KernelIdeal.main_arg12)
  ∧ m' ((c : Thread Cert.ReferenceIdeal.nD Cert.ReferenceIdeal.τ).loc Cert.ReferenceIdeal.main_arg13) = m ((c : Thread Cert.KernelIdeal.nD Cert.KernelIdeal.τ).loc Cert.KernelIdeal.main_arg13)
  ∧ m' ((c : Thread Cert.ReferenceIdeal.nD Cert.ReferenceIdeal.τ).loc Cert.ReferenceIdeal.main_arg14) = m ((c : Thread Cert.KernelIdeal.nD Cert.KernelIdeal.τ).loc Cert.KernelIdeal.main_arg14)
  ∧ m' ((c : Thread Cert.ReferenceIdeal.nD Cert.ReferenceIdeal.τ).loc Cert.ReferenceIdeal.main_arg15) = m ((c : Thread Cert.KernelIdeal.nD Cert.KernelIdeal.τ).loc Cert.KernelIdeal.main_arg15)
  ∧ m' ((c : Thread Cert.ReferenceIdeal.nD Cert.ReferenceIdeal.τ).loc Cert.ReferenceIdeal.main_arg16) = m ((c : Thread Cert.KernelIdeal.nD Cert.KernelIdeal.τ).loc Cert.KernelIdeal.main_arg16)
  ∧ m' ((c : Thread Cert.ReferenceIdeal.nD Cert.ReferenceIdeal.τ).loc Cert.ReferenceIdeal.main_arg17) = m ((c : Thread Cert.KernelIdeal.nD Cert.KernelIdeal.τ).loc Cert.KernelIdeal.main_arg17)

variable {m m' c}

/-- The arrays of the input's codes agree. -/
theorem result19 (h : Agree m m' c) :
    (Cert.ReferenceIdeal.Gen.dats m' 0 c).arrAt 19 Cert.ReferenceIdeal.cfg0.N = (Cert.KernelIdeal.Gen.dats m 0 c).arrAt 19 Cert.KernelIdeal.cfg0.N := by
  obtain ⟨h0, h1, h2, h3, h4, h5, h6, h7, h8, h9, h10, h11, h12, h13, h14, h15, h16, h17⟩ := h
  rw [Cert.ReferenceIdeal.Arrays.array19, Cert.KernelIdeal.Arrays.array19]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]
  simp only [Latents.xCodes_eq]

/-- The arrays of the largest normalised input agree. -/
theorem result20 (h : Agree m m' c) :
    (Cert.ReferenceIdeal.Gen.dats m' 0 c).arrAt 20 Cert.ReferenceIdeal.cfg0.N = (Cert.KernelIdeal.Gen.dats m 0 c).arrAt 20 Cert.KernelIdeal.cfg0.N := by
  obtain ⟨h0, h1, h2, h3, h4, h5, h6, h7, h8, h9, h10, h11, h12, h13, h14, h15, h16, h17⟩ := h
  rw [Cert.ReferenceIdeal.Arrays.array20, Cert.KernelIdeal.Arrays.array20]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]
  simp only [Latents.xMax_eq]

/-- The arrays of the query latent's codes agree. -/
theorem result21 (h : Agree m m' c) :
    (Cert.ReferenceIdeal.Gen.dats m' 0 c).arrAt 21 Cert.ReferenceIdeal.cfg0.N = (Cert.KernelIdeal.Gen.dats m 0 c).arrAt 21 Cert.KernelIdeal.cfg0.N := by
  obtain ⟨h0, h1, h2, h3, h4, h5, h6, h7, h8, h9, h10, h11, h12, h13, h14, h15, h16, h17⟩ := h
  rw [Cert.ReferenceIdeal.Arrays.array21, Cert.KernelIdeal.Arrays.array21]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]
  simp only [Latents.xCodes_eq, Latents.cqCodes_eq]

/-- The arrays of the largest query latent agree. -/
theorem result22 (h : Agree m m' c) :
    (Cert.ReferenceIdeal.Gen.dats m' 0 c).arrAt 22 Cert.ReferenceIdeal.cfg0.N = (Cert.KernelIdeal.Gen.dats m 0 c).arrAt 22 Cert.KernelIdeal.cfg0.N := by
  obtain ⟨h0, h1, h2, h3, h4, h5, h6, h7, h8, h9, h10, h11, h12, h13, h14, h15, h16, h17⟩ := h
  rw [Cert.ReferenceIdeal.Arrays.array22, Cert.KernelIdeal.Arrays.array22]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]
  simp only [Latents.xCodes_eq, Latents.cqMax_eq]

/-- The arrays of the key-value latent's codes agree. -/
theorem result23 (h : Agree m m' c) :
    (Cert.ReferenceIdeal.Gen.dats m' 0 c).arrAt 23 Cert.ReferenceIdeal.cfg0.N = (Cert.KernelIdeal.Gen.dats m 0 c).arrAt 23 Cert.KernelIdeal.cfg0.N := by
  obtain ⟨h0, h1, h2, h3, h4, h5, h6, h7, h8, h9, h10, h11, h12, h13, h14, h15, h16, h17⟩ := h
  rw [Cert.ReferenceIdeal.Arrays.array23, Cert.KernelIdeal.Arrays.array23]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]
  simp only [Latents.xCodes_eq, Latents.ckvCodes_eq]

/-- The arrays of the largest key-value latent agree. -/
theorem result24 (h : Agree m m' c) :
    (Cert.ReferenceIdeal.Gen.dats m' 0 c).arrAt 24 Cert.ReferenceIdeal.cfg0.N = (Cert.KernelIdeal.Gen.dats m 0 c).arrAt 24 Cert.KernelIdeal.cfg0.N := by
  obtain ⟨h0, h1, h2, h3, h4, h5, h6, h7, h8, h9, h10, h11, h12, h13, h14, h15, h16, h17⟩ := h
  rw [Cert.ReferenceIdeal.Arrays.array24, Cert.KernelIdeal.Arrays.array24]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]
  simp only [Latents.xCodes_eq, Latents.ckvMax_eq]

/-- The arrays of the final sum agree. -/
theorem result18 (h : Agree m m' c) :
    (Cert.ReferenceIdeal.Gen.dats m' 0 c).arrAt 18 Cert.ReferenceIdeal.cfg0.N = (Cert.KernelIdeal.Gen.dats m 0 c).arrAt 18 Cert.KernelIdeal.cfg0.N := by
  obtain ⟨h0, h1, h2, h3, h4, h5, h6, h7, h8, h9, h10, h11, h12, h13, h14, h15, h16, h17⟩ := h
  rw [Cert.ReferenceIdeal.Arrays.array18, Cert.KernelIdeal.Arrays.array18]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]

/-- The arrays of the codes of the attention's output agree. -/
theorem result25 (h : Agree m m' c) :
    (Cert.ReferenceIdeal.Gen.dats m' 0 c).arrAt 25 Cert.ReferenceIdeal.cfg0.N = (Cert.KernelIdeal.Gen.dats m 0 c).arrAt 25 Cert.KernelIdeal.cfg0.N := by
  obtain ⟨h0, h1, h2, h3, h4, h5, h6, h7, h8, h9, h10, h11, h12, h13, h14, h15, h16, h17⟩ := h
  rw [Cert.ReferenceIdeal.Arrays.array25, Cert.KernelIdeal.Arrays.array25]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]

/-- The arrays of the largest absolute value of the attention's output agree. -/
theorem result26 (h : Agree m m' c) :
    (Cert.ReferenceIdeal.Gen.dats m' 0 c).arrAt 26 Cert.ReferenceIdeal.cfg0.N = (Cert.KernelIdeal.Gen.dats m 0 c).arrAt 26 Cert.KernelIdeal.cfg0.N := by
  obtain ⟨h0, h1, h2, h3, h4, h5, h6, h7, h8, h9, h10, h11, h12, h13, h14, h15, h16, h17⟩ := h
  rw [Cert.ReferenceIdeal.Arrays.array26, Cert.KernelIdeal.Arrays.array26]
  simp only [Cert.ReferenceIdeal.Arrays.x, Cert.ReferenceIdeal.Arrays.g_in, Cert.ReferenceIdeal.Arrays.g_q, Cert.ReferenceIdeal.Arrays.g_kv, Cert.ReferenceIdeal.Arrays.w_q_a, Cert.ReferenceIdeal.Arrays.s_q_a, Cert.ReferenceIdeal.Arrays.w_q_b, Cert.ReferenceIdeal.Arrays.s_q_b, Cert.ReferenceIdeal.Arrays.w_kv_a, Cert.ReferenceIdeal.Arrays.s_kv_a, Cert.ReferenceIdeal.Arrays.w_kv_b, Cert.ReferenceIdeal.Arrays.s_kv_b, Cert.ReferenceIdeal.Arrays.w_o, Cert.ReferenceIdeal.Arrays.s_w_o, Cert.ReferenceIdeal.Arrays.s_x, Cert.ReferenceIdeal.Arrays.s_cq, Cert.ReferenceIdeal.Arrays.s_ckv, Cert.ReferenceIdeal.Arrays.s_o, h0, h1, h2, h3, h4, h5, h6, h7, h8, h9, h10, h11, h12, h13, h14, h15, h16, h17]

end Cert.Results

end
-- ==== Proof.lean ====
/- The certificate, assembled: the three frames, the meaning of the two named constants, and the equation of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Results
public import Idealize.ShloMosaic.Adequacy
public import Idealize.ShloMosaic.Init

@[expose] public section

noncomputable section

namespace Cert.Proof

open Idealize.ShloMosaic Idealize.SL.Sem

/-- The named constants of the idealised kernel are, as printed, the roundings of the real numbers they name. -/
theorem preserves : Cert.preserves_Kernel_KernelIdeal :=
  ⟨Idealize.ShloMosaic.IdealRules.named_const.statement Cert.KernelIdeal.κ "theta_exponent" .f32 0xBF549A78#32 ((-((Real.log 10000) * (16 * (Real.log 2))⁻¹) : ℝ) : EReal) rfl,
    Idealize.ShloMosaic.IdealRules.named_const.statement Cert.KernelIdeal.κ "score_exponent" .f32 0x3E16C740#32 (((Real.sqrt 96)⁻¹ * (Real.log 2)⁻¹ : ℝ) : EReal) rfl⟩

set_option maxHeartbeats 4000000 in
/-- The claimed results of the idealised kernel and of the reference are the same from arguments that agree, and both
    programs leave their arguments as they were. -/
theorem algebraic : Cert.algebraic_KernelIdeal_ReferenceIdeal := by
  intro m g m' g' _ hag
  refine ⟨fun c => (Cert.KernelIdeal.Gen.dats m 0 c).arrAt 18 Cert.KernelIdeal.cfg0.N,
    fun c => (Cert.KernelIdeal.Gen.dats m 0 c).arrAt 19 Cert.KernelIdeal.cfg0.N,
    fun c => (Cert.KernelIdeal.Gen.dats m 0 c).arrAt 20 Cert.KernelIdeal.cfg0.N,
    fun c => (Cert.KernelIdeal.Gen.dats m 0 c).arrAt 21 Cert.KernelIdeal.cfg0.N,
    fun c => (Cert.KernelIdeal.Gen.dats m 0 c).arrAt 22 Cert.KernelIdeal.cfg0.N,
    fun c => (Cert.KernelIdeal.Gen.dats m 0 c).arrAt 23 Cert.KernelIdeal.cfg0.N,
    fun c => (Cert.KernelIdeal.Gen.dats m 0 c).arrAt 24 Cert.KernelIdeal.cfg0.N,
    fun c => (Cert.KernelIdeal.Gen.dats m 0 c).arrAt 25 Cert.KernelIdeal.cfg0.N,
    fun c => (Cert.KernelIdeal.Gen.dats m 0 c).arrAt 26 Cert.KernelIdeal.cfg0.N, ?_, ?_⟩
  · refine (θ_run Cert.KernelIdeal.defs _ _).mono ?_ (Cert.KernelIdeal.Value.run_blocks m g)
    intro r h c
    obtain ⟨h0, h1, h2, h3, h4, h5, h6, h7, h8, ha⟩ := h c
    exact ⟨h0, h1, h2, h3, h4, h5, h6, h7, h8, ha⟩
  · refine (θ_run Cert.ReferenceIdeal.defs _ _).mono ?_ (Cert.ReferenceIdeal.Value.run_blocks m' g')
    intro r h c
    obtain ⟨h0, h1, h2, h3, h4, h5, h6, h7, h8, ha⟩ := h c
    have H : Cert.Results.Agree m m' c := hag c
    exact ⟨h0.trans (Cert.Results.result18 H), h1.trans (Cert.Results.result19 H), h2.trans (Cert.Results.result20 H), h3.trans (Cert.Results.result21 H), h4.trans (Cert.Results.result22 H), h5.trans (Cert.Results.result23 H), h6.trans (Cert.Results.result24 H), h7.trans (Cert.Results.result25 H), h8.trans (Cert.Results.result26 H), ha⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
